-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_x_in_range [hPre_x_in_range : Cert.Pre_x_in_range.Facts] (m : (ℓ : Loc Cert.ProjIdeal.nD Cert.ProjIdeal.τ Cert.ProjIdeal.sig) → Buf (Elt Ideal) ℓ) : Prop :=
  ∀ c : Dev Cert.ProjIdeal.nD,
    (Cert.Pre_x_in_range.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_x_in_range [hPre_x_in_range : Cert.Pre_x_in_range.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_x_in_range.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjIdeal_pre_x_in_range [hProjIdeal : Cert.ProjIdeal.Facts] [hPre_x_in_range : Cert.Pre_x_in_range.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_x_in_range m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_ProjReferenceIdeal_pre_x_in_range [hProjReferenceIdeal : Cert.ProjReferenceIdeal.Facts] [hPre_x_in_range : Cert.Pre_x_in_range.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_x_in_range m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def preserves_Proj_ProjIdeal : Prop :=
  True

def algebraic_ProjIdeal_ProjReferenceIdeal_pre_x_in_range [hProjIdeal : Cert.ProjIdeal.Facts] [hProjReferenceIdeal : Cert.ProjReferenceIdeal.Facts] [hPre_x_in_range : Cert.Pre_x_in_range.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_x_in_range m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v12_5)) (v1 : (c : Dev Cert.ProjIdeal.nD) → Buf (Elt Ideal) ((c.tc : Thread Cert.ProjIdeal.nD Cert.ProjIdeal.τ).loc Cert.ProjIdeal.main_v12_6)) (v2 : (c : Dev Cert.ProjIdeal.nD) → Buf (Elt Ideal) ((c.tc : Thread Cert.ProjIdeal.nD Cert.ProjIdeal.τ).loc Cert.ProjIdeal.main_v12_7)) (v3 : (c : Dev Cert.ProjIdeal.nD) → Buf (Elt Ideal) ((c.tc : Thread Cert.ProjIdeal.nD Cert.ProjIdeal.τ).loc Cert.ProjIdeal.main_v12_0)) (v4 : (c : Dev Cert.ProjIdeal.nD) → Buf (Elt Ideal) ((c.tc : Thread Cert.ProjIdeal.nD Cert.ProjIdeal.τ).loc Cert.ProjIdeal.main_v12_1)) (v5 : (c : Dev Cert.ProjIdeal.nD) → Buf (Elt Ideal) ((c.tc : Thread Cert.ProjIdeal.nD Cert.ProjIdeal.τ).loc Cert.ProjIdeal.main_v12_2)) (v6 : (c : Dev Cert.ProjIdeal.nD) → Buf (Elt Ideal) ((c.tc : Thread Cert.ProjIdeal.nD Cert.ProjIdeal.τ).loc Cert.ProjIdeal.main_v12_3)) (v7 : (c : Dev Cert.ProjIdeal.nD) → Buf (Elt Ideal) ((c.tc : Thread Cert.ProjIdeal.nD Cert.ProjIdeal.τ).loc Cert.ProjIdeal.main_v12_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v12_5) = v0 c
          ∧ r.2.mem ((c.tc : Thread Cert.ProjIdeal.nD Cert.ProjIdeal.τ).loc Cert.ProjIdeal.main_v12_6) = v1 c
          ∧ r.2.mem ((c.tc : Thread Cert.ProjIdeal.nD Cert.ProjIdeal.τ).loc Cert.ProjIdeal.main_v12_7) = v2 c
          ∧ r.2.mem ((c.tc : Thread Cert.ProjIdeal.nD Cert.ProjIdeal.τ).loc Cert.ProjIdeal.main_v12_0) = v3 c
          ∧ r.2.mem ((c.tc : Thread Cert.ProjIdeal.nD Cert.ProjIdeal.τ).loc Cert.ProjIdeal.main_v12_1) = v4 c
          ∧ r.2.mem ((c.tc : Thread Cert.ProjIdeal.nD Cert.ProjIdeal.τ).loc Cert.ProjIdeal.main_v12_2) = v5 c
          ∧ r.2.mem ((c.tc : Thread Cert.ProjIdeal.nD Cert.ProjIdeal.τ).loc Cert.ProjIdeal.main_v12_3) = v6 c
          ∧ r.2.mem ((c.tc : Thread Cert.ProjIdeal.nD Cert.ProjIdeal.τ).loc Cert.ProjIdeal.main_v12_4) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v109) = v0 c
          ∧ r.2.mem ((c.tc : Thread Cert.ProjReferenceIdeal.nD Cert.ProjReferenceIdeal.τ).loc Cert.ProjReferenceIdeal.main_v110) = v1 c
          ∧ r.2.mem ((c.tc : Thread Cert.ProjReferenceIdeal.nD Cert.ProjReferenceIdeal.τ).loc Cert.ProjReferenceIdeal.main_v111) = v2 c
          ∧ r.2.mem ((c.tc : Thread Cert.ProjReferenceIdeal.nD Cert.ProjReferenceIdeal.τ).loc Cert.ProjReferenceIdeal.main_v26) = v3 c
          ∧ r.2.mem ((c.tc : Thread Cert.ProjReferenceIdeal.nD Cert.ProjReferenceIdeal.τ).loc Cert.ProjReferenceIdeal.main_v16) = v4 c
          ∧ r.2.mem ((c.tc : Thread Cert.ProjReferenceIdeal.nD Cert.ProjReferenceIdeal.τ).loc Cert.ProjReferenceIdeal.main_v112) = v5 c
          ∧ r.2.mem ((c.tc : Thread Cert.ProjReferenceIdeal.nD Cert.ProjReferenceIdeal.τ).loc Cert.ProjReferenceIdeal.main_v113) = v6 c
          ∧ r.2.mem ((c.tc : Thread Cert.ProjReferenceIdeal.nD Cert.ProjReferenceIdeal.τ).loc Cert.ProjReferenceIdeal.main_v114) = v7 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_Attn_AttnIdeal : Prop :=
  True

def Claim : Prop :=
  ∃ (hProj : Cert.Proj.Facts) (hProjIdeal : Cert.ProjIdeal.Facts) (hProjReferenceIdeal : Cert.ProjReferenceIdeal.Facts) (hAttn : Cert.Attn.Facts) (hAttnIdeal : Cert.AttnIdeal.Facts) (hPre_x_in_range : Cert.Pre_x_in_range.Facts),
    quiescent_Proj (hProj := hProj)
    ∧ quiescent_ProjIdeal (hProjIdeal := hProjIdeal)
    ∧ quiescent_ProjIdeal_pre_x_in_range (hProjIdeal := hProjIdeal) (hPre_x_in_range := hPre_x_in_range)
    ∧ quiescent_ProjReferenceIdeal (hProjReferenceIdeal := hProjReferenceIdeal)
    ∧ quiescent_ProjReferenceIdeal_pre_x_in_range (hProjReferenceIdeal := hProjReferenceIdeal) (hPre_x_in_range := hPre_x_in_range)
    ∧ quiescent_Attn (hAttn := hAttn)
    ∧ quiescent_AttnIdeal (hAttnIdeal := hAttnIdeal)
    ∧ preserves_Proj_ProjIdeal
    ∧ algebraic_ProjIdeal_ProjReferenceIdeal_pre_x_in_range (hProjIdeal := hProjIdeal) (hProjReferenceIdeal := hProjReferenceIdeal) (hPre_x_in_range := hPre_x_in_range)
    ∧ preserves_Attn_AttnIdeal
-- ==== Pre_x_in_range.lean ====
abbrev S8x2048x3840 : Shape := ⟨3, ![8, 2048, 3840]⟩
abbrev S3840x5376 : Shape := ⟨2, ![3840, 5376]⟩
abbrev S5376 : Shape := ⟨1, ![5376]⟩
abbrev S8 : Shape := ⟨1, ![8]⟩
abbrev S_ : Shape := ⟨0, ![]⟩
abbrev S8x2048 : Shape := ⟨2, ![8, 2048]⟩

class Facts : Prop where
  bitsLt_bf16_f32 : FTy.bits .bf16 < FTy.bits .f32
  reducesTo_S8x2048x3840_S8x2048_d2 : S8x2048x3840.ReducesTo [2] S8x2048
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S8x2048x3840 .bf16) (main_arg1 : FVec F S3840x5376 .fp8e4m3) (main_arg2 : FVec F S5376 .f32) (main_arg3 : FVec F S5376 .f32) (main_arg4 : IVec S8 32) : IVec S_ 1 :=
  let main_v0 : FVec F S8x2048x3840 .f32 := (extf .f32 · bitsLt_bf16_f32) main_arg0
  let main_v1 : FVec F S8x2048x3840 .f32 := Host.absf main_v0
  let main_cst : FVec F S_ .f32 := constant S_ .f32 0xFF800000#32
  let main_v2 : FVec F S8x2048 .f32 := (fun x v => Host.reduce FloatOps.maximumf x v reducesTo_S8x2048x3840_S8x2048_d2 h_S_) main_v1 main_cst
  let main_cst_0 : FVec F S_ .f32 := constant S_ .f32 0x3B124925#32
  let main_v3 : FVec F S8x2048 .f32 := broadcastInDim S8x2048 ![] bcast_S_S8x2048 main_cst_0
  let main_v4 : FVec F S8x2048 .f32 := mulf main_v2 main_v3
  let main_cst_1 : FVec F S_ .f32 := constant S_ .f32 0x00800000#32
  let main_v5 : FVec F S8x2048 .f32 := broadcastInDim S8x2048 ![] bcast_S_S8x2048 main_cst_1
  let main_v6 : IVec S8x2048 1 := cmpf .oge main_v4 main_v5
  let main_cst_2 : FVec F S_ .f32 := constant S_ .f32 0x7F7F0000#32
  let main_v7 : FVec F S8x2048 .f32 := broadcastInDim S8x2048 ![] bcast_S_S8x2048 main_cst_2
  let main_v8 : IVec S8x2048 1 := cmpf .ole main_v2 main_v7
  let main_v9 : IVec S8x2048 1 := andi main_v6 main_v8
  let main_cst_3 : FVec F S_ .f32 := constant S_ .f32 0x00000000#32
  let main_v10 : FVec F S8x2048 .f32 := broadcastInDim S8x2048 ![] bcast_S_S8x2048 main_cst_3
  let main_v11 : IVec S8x2048 1 := cmpf .oeq main_v2 main_v10
  let main_v12 : IVec S8x2048 1 := ori main_v11 main_v9
  let main_c : IVec S_ 1 := constantI S_ 1 1#1
  let main_v13 : IVec S_ 1 := (fun x v => Host.reduce IntOp.andi x v reducesTo_S8x2048_S_d0_1 h_S_) main_v12 main_c
  main_v13
-- ==== Proj.lean ====
abbrev S8x2048x3840 : Shape := ⟨3, ![8, 2048, 3840]⟩
abbrev S3840x5376 : Shape := ⟨2, ![3840, 5376]⟩
abbrev S5376 : Shape := ⟨1, ![5376]⟩
abbrev S8 : Shape := ⟨1, ![8]⟩
abbrev S64 : Shape := ⟨1, ![64]⟩
abbrev S_ : Shape := ⟨0, ![]⟩
abbrev S64x1 : Shape := ⟨2, ![64, 1]⟩
abbrev S64x128 : Shape := ⟨2, ![64, 128]⟩
abbrev S1x5376 : Shape := ⟨2, ![1, 5376]⟩
abbrev S8x2048 : Shape := ⟨2, ![8, 2048]⟩
abbrev S8x30x128x2048 : Shape := ⟨4, ![8, 30, 128, 2048]⟩
abbrev S8x6x2048x128 : Shape := ⟨4, ![8, 6, 2048, 128]⟩
abbrev S8x6x128x2048 : Shape := ⟨4, ![8, 6, 128, 2048]⟩
abbrev S30x8x2048 : Shape := ⟨3, ![30, 8, 2048]⟩
abbrev S6x8x2048 : Shape := ⟨3, ![6, 8, 2048]⟩
abbrev S1x30 : Shape := ⟨2, ![1, 30]⟩
abbrev S1x6 : Shape := ⟨2, ![1, 6]⟩
abbrev S1x512x3840 : Shape := ⟨3, ![1, 512, 3840]⟩
abbrev S8x512 : Shape := ⟨2, ![8, 512]⟩
abbrev S1x30x128x512 : Shape := ⟨4, ![1, 30, 128, 512]⟩
abbrev S1x6x512x128 : Shape := ⟨4, ![1, 6, 512, 128]⟩
abbrev S1x6x128x512 : Shape := ⟨4, ![1, 6, 128, 512]⟩
abbrev S30x8x512 : Shape := ⟨3, ![30, 8, 512]⟩
abbrev S6x8x512 : Shape := ⟨3, ![6, 8, 512]⟩
abbrev S512x128 : Shape := ⟨2, ![512, 128]⟩
abbrev S30x128 : Shape := ⟨2, ![30, 128]⟩
abbrev S6x128 : Shape := ⟨2, ![6, 128]⟩
abbrev S1x64x3840 : Shape := ⟨3, ![1, 64, 3840]⟩
abbrev S64x3840 : Shape := ⟨2, ![64, 3840]⟩
abbrev S64x256 : Shape := ⟨2, ![64, 256]⟩
abbrev S128x128 : Shape := ⟨2, ![128, 128]⟩
abbrev S128 : Shape := ⟨1, ![128]⟩
abbrev S1x128 : Shape := ⟨2, ![1, 128]⟩
abbrev S8x128 : Shape := ⟨2, ![8, 128]⟩
abbrev S1 : Shape := ⟨1, ![1]⟩
abbrev S64x512 : Shape := ⟨2, ![64, 512]⟩
abbrev S512x3840 : Shape := ⟨2, ![512, 3840]⟩
abbrev S3840x256 : Shape := ⟨2, ![3840, 256]⟩
abbrev S512x256 : Shape := ⟨2, ![512, 256]⟩
abbrev S128x512 : Shape := ⟨2, ![128, 512]⟩
abbrev S512 : Shape := ⟨1, ![512]⟩
abbrev S1x512 : Shape := ⟨2, ![1, 512]⟩
abbrev S1x1x64x512 : Shape := ⟨4, ![1, 1, 64, 512]⟩
abbrev S1x8x512 : Shape := ⟨3, ![1, 8, 512]⟩
abbrev S1x1x512x128 : Shape := ⟨4, ![1, 1, 512, 128]⟩
abbrev S1x1x128x512 : Shape := ⟨4, ![1, 1, 128, 512]⟩
abbrev S30x8x128 : Shape := ⟨3, ![30, 8, 128]⟩
abbrev S6x8x128 : Shape := ⟨3, ![6, 8, 128]⟩
abbrev S30 : Shape := ⟨1, ![30]⟩
abbrev S30x1 : Shape := ⟨2, ![30, 1]⟩
abbrev S6 : Shape := ⟨1, ![6]⟩
abbrev S6x1 : Shape := ⟨2, ![6, 1]⟩

abbrev nBuf : Space → Nat
  | .hbm => 33
  | .vmem => 32
  | .smem => 1
  | _ => 0

abbrev bufTy : (tb : Table) → Fin (tcTables nBuf tb) → BufTy
  | .hbm, ⟨0, _⟩ => ⟨S8x2048x3840, .bf16⟩
  | .hbm, ⟨1, _⟩ => ⟨S3840x5376, .fp8e4m3⟩
  | .hbm, ⟨2, _⟩ => ⟨S5376, .f32⟩
  | .hbm, ⟨3, _⟩ => ⟨S5376, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64x1, .f32⟩
  | .hbm, ⟨16, _⟩ => ⟨S64x128, .f32⟩
  | .hbm, ⟨17, _⟩ => ⟨S1x5376, .f32⟩
  | .hbm, ⟨18, _⟩ => ⟨S1x5376, .f32⟩
  | .hbm, ⟨19, _⟩ => ⟨S8x2048x3840, .fp8e4m3⟩
  | .hbm, ⟨20, _⟩ => ⟨S8x2048, .f32⟩
  | .hbm, ⟨21, _⟩ => ⟨S8x30x128x2048, .bf16⟩
  | .hbm, ⟨22, _⟩ => ⟨S8x6x2048x128, .bf16⟩
  | .hbm, ⟨23, _⟩ => ⟨S8x6x128x2048, .bf16⟩
  | .hbm, ⟨24, _⟩ => ⟨S30x8x2048, .f32⟩
  | .hbm, ⟨25, _⟩ => ⟨S6x8x2048, .f32⟩
  | .hbm, ⟨26, _⟩ => ⟨S6x8x2048, .f32⟩
  | .hbm, ⟨27, _⟩ => ⟨S1x30, .f32⟩
  | .hbm, ⟨28, _⟩ => ⟨S1x6, .f32⟩
  | .hbm, ⟨29, _⟩ => ⟨S1x6, .f32⟩
  | .hbm, ⟨30, _⟩ => ⟨S1x30, .f32⟩
  | .hbm, ⟨31, _⟩ => ⟨S1x6, .f32⟩
  | .hbm, ⟨32, _⟩ => ⟨S1x6, .f32⟩
  | .local _ .vmem, ⟨0, _⟩ => ⟨S64x128, .f32⟩
  | .local _ .vmem, ⟨1, _⟩ => ⟨S1x512x3840, .bf16⟩
  | .local _ .vmem, ⟨2, _⟩ => ⟨S1x512x3840, .bf16⟩
  | .local _ .vmem, ⟨3, _⟩ => ⟨S3840x5376, .fp8e4m3⟩
  | .local _ .vmem, ⟨4, _⟩ => ⟨S1x5376, .f32⟩
  | .local _ .vmem, ⟨5, _⟩ => ⟨S1x5376, .f32⟩
  | .local _ .vmem, ⟨6, _⟩ => ⟨S1x512x3840, .fp8e4m3⟩
  | .local _ .vmem, ⟨7, _⟩ => ⟨S1x512x3840, .fp8e4m3⟩
  | .local _ .vmem, ⟨8, _⟩ => ⟨S8x512, .f32⟩
  | .local _ .vmem, ⟨9, _⟩ => ⟨S8x512, .f32⟩
  | .local _ .vmem, ⟨10, _⟩ => ⟨S1x30x128x512, .bf16⟩
  | .local _ .vmem, ⟨11, _⟩ => ⟨S1x30x128x512, .bf16⟩
  | .local _ .vmem, ⟨12, _⟩ => ⟨S1x6x512x128, .bf16⟩
  | .local _ .vmem, ⟨13, _⟩ => ⟨S1x6x512x128, .bf16⟩
  | .local _ .vmem, ⟨14, _⟩ => ⟨S1x6x128x512, .bf16⟩
  | .local _ .vmem, ⟨15, _⟩ => ⟨S1x6x128x512, .bf16⟩
  | .local _ .vmem, ⟨16, _⟩ => ⟨S30x8x512, .f32⟩
  | .local _ .vmem, ⟨17, _⟩ => ⟨S30x8x512, .f32⟩
  | .local _ .vmem, ⟨18, _⟩ => ⟨S6x8x512, .f32⟩
  | .local _ .vmem, ⟨19, _⟩ => ⟨S6x8x512, .f32⟩
  | .local _ .vmem, ⟨20, _⟩ => ⟨S6x8x512, .f32⟩
  | .local _ .vmem, ⟨21, _⟩ => ⟨S6x8x512, .f32⟩
  | .local _ .vmem, ⟨22, _⟩ => ⟨S1x30, .f32⟩
  | .local _ .vmem, ⟨23, _⟩ => ⟨S1x6, .f32⟩
  | .local _ .vmem, ⟨24, _⟩ => ⟨S1x6, .f32⟩
  | .local _ .vmem, ⟨25, _⟩ => ⟨S1x30, .f32⟩
  | .local _ .vmem, ⟨26, _⟩ => ⟨S1x6, .f32⟩
  | .local _ .vmem, ⟨27, _⟩ => ⟨S1x6, .f32⟩
  | .local _ .vmem, ⟨28, _⟩ => ⟨S512x128, .f32⟩
  | .local _ .vmem, ⟨29, _⟩ => ⟨S30x128, .f32⟩
  | .local _ .vmem, ⟨30, _⟩ => ⟨S6x128, .f32⟩
  | .local _ .vmem, ⟨31, _⟩ => ⟨S6x128, .f32⟩
  | .local _ .smem, ⟨0, _⟩ => ⟨S8, .i32⟩
  | _, _ => ⟨S8x2048x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev main_v12_5 : Ref sig .tc := ⟨.hbm, 24, rfl⟩
abbrev main_v12_6 : Ref sig .tc := ⟨.hbm, 25, rfl⟩
abbrev main_v12_7 : Ref sig .tc := ⟨.hbm, 26, rfl⟩
abbrev main_v12_8 : Ref sig .tc := ⟨.hbm, 27, rfl⟩
abbrev main_v12_9 : Ref sig .tc := ⟨.hbm, 28, rfl⟩
abbrev main_v12_10 : Ref sig .tc := ⟨.hbm, 29, rfl⟩
abbrev main_v12_11 : Ref sig .tc := ⟨.hbm, 30, rfl⟩
abbrev main_v12_12 : Ref sig .tc := ⟨.hbm, 31, rfl⟩
abbrev main_v12_13 : Ref sig .tc := ⟨.hbm, 32, rfl⟩
abbrev main_arg4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v500 : Index := Scalar.indexCast arg1
  ![v500.toNat]
def k0_cond3 (i : grid0.Coords) : BitVec 1 :=
  let arg0 : BitVec 32 := BitVec.ofNat 32 (i 0).val
  let c3_i32 : BitVec 32 := 3#32
  let v2350 : BitVec 1 := Scalar.cmpi .eq arg0 c3_i32
  let arg1 : BitVec 32 := BitVec.ofNat 32 (i 1).val
  let c7_i32_826 : BitVec 32 := 7#32
  let v2351 : BitVec 1 := Scalar.cmpi .eq arg1 c7_i32_826
  let v2352 : BitVec 1 := Scalar.andi v2350 v2351
  let v2353 : BitVec 32 := Scalar.extui v2352
  let c0_i32_827 : BitVec 32 := 0#32
  let v2354 : BitVec 1 := Scalar.cmpi .ne v2353 c0_i32_827
  v2354

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x3840 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3840x5376 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x5376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5376 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x3840 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x30x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x6x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x6x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S30x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S6x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S6x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x30 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x6 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x6 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x30 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x6 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x6 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== ProjReferenceIdeal.lean ====
abbrev S8x2048x3840 : Shape := ⟨3, ![8, 2048, 3840]⟩
abbrev S3840x5376 : Shape := ⟨2, ![3840, 5376]⟩
abbrev S5376 : Shape := ⟨1, ![5376]⟩
abbrev S8 : Shape := ⟨1, ![8]⟩
abbrev S_ : Shape := ⟨0, ![]⟩
abbrev S8x2048 : Shape := ⟨2, ![8, 2048]⟩
abbrev S8x2048x1 : Shape := ⟨3, ![8, 2048, 1]⟩
abbrev S16384x3840 : Shape := ⟨2, ![16384, 3840]⟩
abbrev S16384x5376 : Shape := ⟨2, ![16384, 5376]⟩
abbrev S8x2048x5376 : Shape := ⟨3, ![8, 2048, 5376]⟩
abbrev S1x1x5376 : Shape := ⟨3, ![1, 1, 5376]⟩
abbrev S8x2048x30x128 : Shape := ⟨4, ![8, 2048, 30, 128]⟩
abbrev S8x2048x768 : Shape := ⟨3, ![8, 2048, 768]⟩
abbrev S8x2048x6x128 : Shape := ⟨4, ![8, 2048, 6, 128]⟩
abbrev S8x1 : Shape := ⟨2, ![8, 1]⟩
abbrev S2048 : Shape := ⟨1, ![2048]⟩
abbrev S1x2048 : Shape := ⟨2, ![1, 2048]⟩
abbrev S64 : Shape := ⟨1, ![64]⟩
abbrev S1x1x64 : Shape := ⟨3, ![1, 1, 64]⟩
abbrev S8x2048x64 : Shape := ⟨3, ![8, 2048, 64]⟩
abbrev S8x2048x1x64 : Shape := ⟨4, ![8, 2048, 1, 64]⟩
abbrev S8x2048x30x64 : Shape := ⟨4, ![8, 2048, 30, 64]⟩
abbrev S8x2048x6x64 : Shape := ⟨4, ![8, 2048, 6, 64]⟩
abbrev S8x2048x30 : Shape := ⟨3, ![8, 2048, 30]⟩
abbrev S8x2048x6 : Shape := ⟨3, ![8, 2048, 6]⟩
abbrev S30x8x2048 : Shape := ⟨3, ![30, 8, 2048]⟩
abbrev S6x8x2048 : Shape := ⟨3, ![6, 8, 2048]⟩
abbrev S8x30x128x2048 : Shape := ⟨4, ![8, 30, 128, 2048]⟩
abbrev S8x6x2048x128 : Shape := ⟨4, ![8, 6, 2048, 128]⟩
abbrev S8x6x128x2048 : Shape := ⟨4, ![8, 6, 128, 2048]⟩

abbrev nBuf : Space → Nat
  | .hbm => 144
  | .vmem => 4
  | .smem => 0
  | _ => 0

abbrev hbmTy0_0 (i : Nat) : BufTy := match i % 128 with
  | 0 => ⟨S8x2048x3840, .bf16⟩
  | 1 => ⟨S3840x5376, .fp8e4m3⟩
  | 2 => ⟨S5376, .f32⟩
  | 3 => ⟨S5376, .f32⟩
  | 4 => ⟨S8, .i32⟩
  | 5 => ⟨S8x2048x3840, .f32⟩
  | 6 => ⟨S8x2048x3840, .f32⟩
  | 7 => ⟨S_, .f32⟩
  | 8 => ⟨S8x2048, .f32⟩
  | 9 => ⟨S_, .f32⟩
  | 10 => ⟨S8x2048, .f32⟩
  | 11 => ⟨S8x2048, .i1⟩
  | 12 => ⟨S_, .f32⟩
  | 13 => ⟨S8x2048, .f32⟩
  | 14 => ⟨S8x2048, .f32⟩
  | 15 => ⟨S8x2048, .f32⟩
  | 16 => ⟨S_, .f32⟩
  | 17 => ⟨S_, .f32⟩
  | 18 => ⟨S8x2048, .f32⟩
  | 19 => ⟨S8x2048, .f32⟩
  | 20 => ⟨S8x2048, .f32⟩
  | 21 => ⟨S_, .f32⟩
  | 22 => ⟨S8x2048, .f32⟩
  | 23 => ⟨S8x2048, .f32⟩
  | 24 => ⟨S_, .f32⟩
  | 25 => ⟨S_, .f32⟩
  | 26 => ⟨S8x2048, .f32⟩
  | 27 => ⟨S8x2048, .f32⟩
  | 28 => ⟨S_, .f32⟩
  | 29 => ⟨S8x2048, .f32⟩
  | 30 => ⟨S8x2048, .f32⟩
  | 31 => ⟨S8x2048, .f32⟩
  | 32 => ⟨S_, .f32⟩
  | 33 => ⟨S8x2048, .f32⟩
  | 34 => ⟨S8x2048, .f32⟩
  | 35 => ⟨S8x2048x1, .f32⟩
  | 36 => ⟨S8x2048x3840, .f32⟩
  | 37 => ⟨S8x2048x3840, .f32⟩
  | 38 => ⟨S_, .f32⟩
  | 39 => ⟨S_, .f32⟩
  | 40 => ⟨S_, .f32⟩
  | 41 => ⟨S8x2048x3840, .f32⟩
  | 42 => ⟨S8x2048x3840, .f32⟩
  | 43 => ⟨S_, .f32⟩
  | 44 => ⟨S8x2048x3840, .f32⟩
  | 45 => ⟨S8x2048x3840, .f32⟩
  | 46 => ⟨S16384x3840, .f32⟩
  | 47 => ⟨S16384x3840, .fp8e4m3⟩
  | 48 => ⟨S16384x5376, .f32⟩
  | 49 => ⟨S8x2048x3840, .fp8e4m3⟩
  | 50 => ⟨S8x2048x5376, .f32⟩
  | 51 => ⟨S8x2048x1, .f32⟩
  | 52 => ⟨S1x1x5376, .f32⟩
  | 53 => ⟨S8x2048x5376, .f32⟩
  | 54 => ⟨S8x2048x5376, .f32⟩
  | 55 => ⟨S8x2048x5376, .f32⟩
  | 56 => ⟨S8x2048x5376, .f32⟩
  | 57 => ⟨S1x1x5376, .f32⟩
  | 58 => ⟨S8x2048x5376, .f32⟩
  | 59 => ⟨S8x2048x5376, .f32⟩
  | 60 => ⟨S8x2048x5376, .bf16⟩
  | 61 => ⟨S8x2048x3840, .bf16⟩
  | 62 => ⟨S8x2048x30x128, .bf16⟩
  | 63 => ⟨S8x2048x768, .bf16⟩
  | 64 => ⟨S8x2048x6x128, .bf16⟩
  | 65 => ⟨S8x2048x768, .bf16⟩
  | 66 => ⟨S8x2048x6x128, .bf16⟩
  | 67 => ⟨S8x1, .i32⟩
  | 68 => ⟨S2048, .i32⟩
  | 69 => ⟨S1x2048, .i32⟩
  | 70 => ⟨S8x2048, .i32⟩
  | 71 => ⟨S8x2048, .i32⟩
  | 72 => ⟨S8x2048, .i32⟩
  | 73 => ⟨S8x2048, .f32⟩
  | 74 => ⟨S64, .f32⟩
  | 75 => ⟨S_, .f32⟩
  | 76 => ⟨S64, .f32⟩
  | 77 => ⟨S64, .f32⟩
  | 78 => ⟨S64, .f32⟩
  | 79 => ⟨S_, .f32⟩
  | 80 => ⟨S64, .f32⟩
  | 81 => ⟨S64, .f32⟩
  | 82 => ⟨S_, .f32⟩
  | 83 => ⟨S64, .f32⟩
  | 84 => ⟨S64, .f32⟩
  | 85 => ⟨S8x2048x1, .f32⟩
  | 86 => ⟨S1x1x64, .f32⟩
  | 87 => ⟨S8x2048x64, .f32⟩
  | 88 => ⟨S8x2048x64, .f32⟩
  | 89 => ⟨S8x2048x64, .f32⟩
  | 90 => ⟨S8x2048x64, .f32⟩
  | 91 => ⟨S8x2048x1x64, .f32⟩
  | 92 => ⟨S8x2048x64, .f32⟩
  | 93 => ⟨S8x2048x1x64, .f32⟩
  | 94 => ⟨S8x2048x30x64, .bf16⟩
  | 95 => ⟨S8x2048x30x64, .f32⟩
  | 96 => ⟨S8x2048x30x64, .bf16⟩
  | 97 => ⟨S8x2048x30x64, .f32⟩
  | 98 => ⟨S8x2048x30x64, .f32⟩
  | 99 => ⟨S8x2048x30x64, .f32⟩
  | 100 => ⟨S8x2048x30x64, .f32⟩
  | 101 => ⟨S8x2048x30x64, .f32⟩
  | 102 => ⟨S8x2048x30x64, .f32⟩
  | 103 => ⟨S8x2048x30x64, .f32⟩
  | 104 => ⟨S8x2048x30x64, .f32⟩
  | 105 => ⟨S8x2048x30x64, .f32⟩
  | 106 => ⟨S8x2048x30x64, .f32⟩
  | 107 => ⟨S8x2048x30x64, .f32⟩
  | 108 => ⟨S8x2048x30x128, .f32⟩
  | 109 => ⟨S8x2048x30x128, .bf16⟩
  | 110 => ⟨S8x2048x6x64, .bf16⟩
  | 111 => ⟨S8x2048x6x64, .f32⟩
  | 112 => ⟨S8x2048x6x64, .bf16⟩
  | 113 => ⟨S8x2048x6x64, .f32⟩
  | 114 => ⟨S8x2048x6x64, .f32⟩
  | 115 => ⟨S8x2048x6x64, .f32⟩
  | 116 => ⟨S8x2048x6x64, .f32⟩
  | 117 => ⟨S8x2048x6x64, .f32⟩
  | 118 => ⟨S8x2048x6x64, .f32⟩
  | 119 => ⟨S8x2048x6x64, .f32⟩
  | 120 => ⟨S8x2048x6x64, .f32⟩
  | 121 => ⟨S8x2048x6x64, .f32⟩
  | 122 => ⟨S8x2048x6x64, .f32⟩
  | 123 => ⟨S8x2048x6x64, .f32⟩
  | 124 => ⟨S8x2048x6x128, .f32⟩
  | 125 => ⟨S8x2048x6x128, .bf16⟩
  | 126 => ⟨S8x2048x30x128, .bf16⟩
  | 127 => ⟨S_, .bf16⟩
  | _ => ⟨S8x2048x3840, .bf16⟩

abbrev hbmTy0_1 (i : Nat) : BufTy := match i % 128 with
  | 0 => ⟨S8x2048x30, .bf16⟩
  | 1 => ⟨S8x2048x30, .f32⟩
  | 2 => ⟨S8x2048x6x128, .bf16⟩
  | 3 => ⟨S_, .bf16⟩
  | 4 => ⟨S8x2048x6, .bf16⟩
  | 5 => ⟨S8x2048x6, .f32⟩
  | 6 => ⟨S8x2048x6x128, .bf16⟩
  | 7 => ⟨S_, .bf16⟩
  | 8 => ⟨S8x2048x6, .bf16⟩
  | 9 => ⟨S8x2048x6, .f32⟩
  | 10 => ⟨S30x8x2048, .f32⟩
  | 11 => ⟨S6x8x2048, .f32⟩
  | 12 => ⟨S6x8x2048, .f32⟩
  | 13 => ⟨S8x30x128x2048, .bf16⟩
  | 14 => ⟨S8x6x2048x128, .bf16⟩
  | 15 => ⟨S8x6x128x2048, .bf16⟩
  | _ => ⟨S8x2048x3840, .bf16⟩

abbrev hbmTy (i : Nat) : BufTy := match i / 128 with
  | 0 => hbmTy0_0 i
  | 1 => hbmTy0_1 i
  | _ => ⟨S8x2048x3840, .bf16⟩

abbrev bufTy : (tb : Table) → Fin (tcTables nBuf tb) → BufTy
  | .hbm, ⟨i, _⟩ => hbmTy i
  | .local _ .vmem, ⟨0, _⟩ => ⟨S16384x3840, .f32⟩
  | .local _ .vmem, ⟨1, _⟩ => ⟨S3840x5376, .fp8e4m3⟩
  | .local _ .vmem, ⟨2, _⟩ => ⟨S16384x3840, .fp8e4m3⟩
  | .local _ .vmem, ⟨3, _⟩ => ⟨S16384x5376, .f32⟩
  | _, _ => ⟨S8x2048x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v23 : Ref sig .tc := ⟨.hbm, 45, rfl⟩
abbrev main_v24 : Ref sig .tc := ⟨.hbm, 46, rfl⟩
abbrev main_v25_0 : Ref sig .tc := ⟨.hbm, 47, rfl⟩
abbrev main_v25_1 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_12 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_13 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_14 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16384x3840 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3840x5376 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x3840 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x5376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Attn.lean ====
abbrev S8x30x128x2048 : Shape := ⟨4, ![8, 30, 128, 2048]⟩
abbrev S8x6x2048x128 : Shape := ⟨4, ![8, 6, 2048, 128]⟩
abbrev S8x6x128x2048 : Shape := ⟨4, ![8, 6, 128, 2048]⟩
abbrev S8x30x2048x128 : Shape := ⟨4, ![8, 30, 2048, 128]⟩
abbrev S30x8x2048 : Shape := ⟨3, ![30, 8, 2048]⟩
abbrev S1x30 : Shape := ⟨2, ![1, 30]⟩
abbrev S1x1x128x2048 : Shape := ⟨4, ![1, 1, 128, 2048]⟩
abbrev S1x1x2048x128 : Shape := ⟨4, ![1, 1, 2048, 128]⟩
abbrev S8x1x2048x128 : Shape := ⟨4, ![8, 1, 2048, 128]⟩
abbrev S1x8x2048 : Shape := ⟨3, ![1, 8, 2048]⟩
abbrev S8x2048x128 : Shape := ⟨3, ![8, 2048, 128]⟩
abbrev S256x256 : Shape := ⟨2, ![256, 256]⟩
abbrev S1x1x256x128 : Shape := ⟨4, ![1, 1, 256, 128]⟩
abbrev S256x128 : Shape := ⟨2, ![256, 128]⟩
abbrev S1x1x128x256 : Shape := ⟨4, ![1, 1, 128, 256]⟩
abbrev S128x256 : Shape := ⟨2, ![128, 256]⟩
abbrev S256 : Shape := ⟨1, ![256]⟩
abbrev S1x256 : Shape := ⟨2, ![1, 256]⟩
abbrev S8x256 : Shape := ⟨2, ![8, 256]⟩
abbrev S1x8x256 : Shape := ⟨3, ![1, 8, 256]⟩
abbrev S1x256x128 : Shape := ⟨3, ![1, 256, 128]⟩
abbrev S1x1x512x128 : Shape := ⟨4, ![1, 1, 512, 128]⟩
abbrev S512x128 : Shape := ⟨2, ![512, 128]⟩
abbrev S512x256 : Shape := ⟨2, ![512, 256]⟩
abbrev S1x1x128x512 : Shape := ⟨4, ![1, 1, 128, 512]⟩
abbrev S128x512 : Shape := ⟨2, ![128, 512]⟩
abbrev S1x1x768x128 : Shape := ⟨4, ![1, 1, 768, 128]⟩
abbrev S768x128 : Shape := ⟨2, ![768, 128]⟩
abbrev S768x256 : Shape := ⟨2, ![768, 256]⟩
abbrev S1x1x128x768 : Shape := ⟨4, ![1, 1, 128, 768]⟩
abbrev S128x768 : Shape := ⟨2, ![128, 768]⟩
abbrev S1x1x1024x128 : Shape := ⟨4, ![1, 1, 1024, 128]⟩
abbrev S1024x128 : Shape := ⟨2, ![1024, 128]⟩
abbrev S1024x256 : Shape := ⟨2, ![1024, 256]⟩
abbrev S1x1x128x1024 : Shape := ⟨4, ![1, 1, 128, 1024]⟩
abbrev S128x1024 : Shape := ⟨2, ![128, 1024]⟩
abbrev S1x1x1280x128 : Shape := ⟨4, ![1, 1, 1280, 128]⟩
abbrev S1280x128 : Shape := ⟨2, ![1280, 128]⟩
abbrev S1280x256 : Shape := ⟨2, ![1280, 256]⟩
abbrev S1x1x128x1280 : Shape := ⟨4, ![1, 1, 128, 1280]⟩
abbrev S128x1280 : Shape := ⟨2, ![128, 1280]⟩
abbrev S1x1x1536x128 : Shape := ⟨4, ![1, 1, 1536, 128]⟩
abbrev S1536x128 : Shape := ⟨2, ![1536, 128]⟩
abbrev S1536x256 : Shape := ⟨2, ![1536, 256]⟩
abbrev S1x1x128x1536 : Shape := ⟨4, ![1, 1, 128, 1536]⟩
abbrev S128x1536 : Shape := ⟨2, ![128, 1536]⟩
abbrev S1x1x1792x128 : Shape := ⟨4, ![1, 1, 1792, 128]⟩
abbrev S1792x128 : Shape := ⟨2, ![1792, 128]⟩
abbrev S1792x256 : Shape := ⟨2, ![1792, 256]⟩
abbrev S1x1x128x1792 : Shape := ⟨4, ![1, 1, 128, 1792]⟩
abbrev S128x1792 : Shape := ⟨2, ![128, 1792]⟩
abbrev S2048x128 : Shape := ⟨2, ![2048, 128]⟩
abbrev S2048x256 : Shape := ⟨2, ![2048, 256]⟩
abbrev S128x2048 : Shape := ⟨2, ![128, 2048]⟩
abbrev S8x2048 : Shape := ⟨2, ![8, 2048]⟩
abbrev S2048 : Shape := ⟨1, ![2048]⟩
abbrev S1x2048 : Shape := ⟨2, ![1, 2048]⟩
abbrev S1 : Shape := ⟨1, ![1]⟩
abbrev S1x1 : Shape := ⟨2, ![1, 1]⟩

abbrev nBuf : Space → Nat
  | .hbm => 10
  | .vmem => 17
  | .smem => 0
  | _ => 0

abbrev bufTy : (tb : Table) → Fin (tcTables nBuf tb) → BufTy
  | .hbm, ⟨0, _⟩ => ⟨S8x30x128x2048, .bf16⟩
  | .hbm, ⟨1, _⟩ => ⟨S8x6x2048x128, .bf16⟩
  | .hbm, ⟨2, _⟩ => ⟨S8x6x128x2048, .bf16⟩
  | .hbm, ⟨3, _⟩ => ⟨S8x30x2048x128, .fp8e4m3⟩
  | .hbm, ⟨4, _⟩ => ⟨S30x8x2048, .f32⟩
  | .hbm, ⟨5, _⟩ => ⟨S30x8x2048, .f32⟩
  | .hbm, ⟨6, _⟩ => ⟨S1x30, .f32⟩
  | .hbm, ⟨7, _⟩ => ⟨S1x30, .f32⟩
  | .hbm, ⟨8, _⟩ => ⟨S1x30, .f32⟩
  | .hbm, ⟨9, _⟩ => ⟨S1x30, .f32⟩
  | .local _ .vmem, ⟨0, _⟩ => ⟨S1x1x128x2048, .bf16⟩
  | .local _ .vmem, ⟨1, _⟩ => ⟨S1x1x128x2048, .bf16⟩
  | .local _ .vmem, ⟨2, _⟩ => ⟨S1x1x2048x128, .bf16⟩
  | .local _ .vmem, ⟨3, _⟩ => ⟨S1x1x2048x128, .bf16⟩
  | .local _ .vmem, ⟨4, _⟩ => ⟨S1x1x128x2048, .bf16⟩
  | .local _ .vmem, ⟨5, _⟩ => ⟨S1x1x128x2048, .bf16⟩
  | .local _ .vmem, ⟨6, _⟩ => ⟨S8x1x2048x128, .fp8e4m3⟩
  | .local _ .vmem, ⟨7, _⟩ => ⟨S8x1x2048x128, .fp8e4m3⟩
  | .local _ .vmem, ⟨8, _⟩ => ⟨S1x8x2048, .f32⟩
  | .local _ .vmem, ⟨9, _⟩ => ⟨S1x8x2048, .f32⟩
  | .local _ .vmem, ⟨10, _⟩ => ⟨S1x8x2048, .f32⟩
  | .local _ .vmem, ⟨11, _⟩ => ⟨S1x8x2048, .f32⟩
  | .local _ .vmem, ⟨12, _⟩ => ⟨S1x30, .f32⟩
  | .local _ .vmem, ⟨13, _⟩ => ⟨S1x30, .f32⟩
  | .local _ .vmem, ⟨14, _⟩ => ⟨S1x30, .f32⟩
  | .local _ .vmem, ⟨15, _⟩ => ⟨S1x30, .f32⟩
  | .local _ .vmem, ⟨16, _⟩ => ⟨S8x2048x128, .f32⟩
  | _, _ => ⟨S8x30x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![30, 8], ![false, false]⟩

def k0_off1 (i : grid0.Coords) : Fin 3 → Nat :=
  let arg1 : BitVec 32 := BitVec.ofNat 32 (i 1).val
  let v58 : Index := Scalar.indexCast arg1
  let c0_28 : Index := 0#32
  let c0_29 : Index := 0#32
  ![v58.toNat, 0, 0]
def k0_off2 (i : grid0.Coords) : Fin 3 → Nat :=
  let arg1 : BitVec 32 := BitVec.ofNat 32 (i 1).val
  let v133 : Index := Scalar.indexCast arg1
  let c256_62 : Index := 256#32
  let c0_63 : Index := 0#32
  ![v133.toNat, 256, 0]
def k0_off3 (i : grid0.Coords) : Fin 3 → Nat :=
  let arg1 : BitVec 32 := BitVec.ofNat 32 (i 1).val
  let v208 : Index := Scalar.indexCast arg1
  let c512_96 : Index := 512#32
  let c0_97 : Index := 0#32
  ![v208.toNat, 512, 0]
def k0_off4 (i : grid0.Coords) : Fin 3 → Nat :=
  let arg1 : BitVec 32 := BitVec.ofNat 32 (i 1).val
  let v283 : Index := Scalar.indexCast arg1
  let c768_130 : Index := 768#32
  let c0_131 : Index := 0#32
  ![v283.toNat, 768, 0]
def k0_off5 (i : grid0.Coords) : Fin 3 → Nat :=
  let arg1 : BitVec 32 := BitVec.ofNat 32 (i 1).val
  let v358 : Index := Scalar.indexCast arg1
  let c1024_164 : Index := 1024#32
  let c0_165 : Index := 0#32
  ![v358.toNat, 1024, 0]
def k0_off6 (i : grid0.Coords) : Fin 3 → Nat :=
  let arg1 : BitVec 32 := BitVec.ofNat 32 (i 1).val
  let v433 : Index := Scalar.indexCast arg1
  let c1280_198 : Index := 1280#32
  let c0_199 : Index := 0#32
  ![v433.toNat, 1280, 0]
def k0_off7 (i : grid0.Coords) : Fin 3 → Nat :=
  let arg1 : BitVec 32 := BitVec.ofNat 32 (i 1).val
  let v508 : Index := Scalar.indexCast arg1
  let c1536_232 : Index := 1536#32
  let c0_233 : Index := 0#32
  ![v508.toNat, 1536, 0]
def k0_off8 (i : grid0.Coords) : Fin 3 → Nat :=
  let arg1 : BitVec 32 := BitVec.ofNat 32 (i 1).val
  let v583 : Index := Scalar.indexCast arg1
  let c1792_266 : Index := 1792#32
  let c0_267 : Index := 0#32
  ![v583.toNat, 1792, 0]
def k0_cond1 (i : grid0.Coords) : BitVec 1 :=
  let arg1 : BitVec 32 := BitVec.ofNat 32 (i 1).val
  let c7_i32 : BitVec 32 := 7#32
  let v587 : BitVec 1 := Scalar.cmpi .eq arg1 c7_i32
  let v588 : BitVec 32 := Scalar.extui v587
  let c0_i32 : BitVec 32 := 0#32
  let v589 : BitVec 1 := Scalar.cmpi .ne v588 c0_i32
  v589

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg1.toNat, v16.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg1.toNat, v16.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x2048x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x30 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x30 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x30 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x30 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Proof.ProjI.Points.lean ====
module

public import proofs.«01_k».proof.Proof.Gen.ProjIdeal
public import Idealize.ShloMosaic.Lib.Pipeline.Kit

/-! The schedule of the projection call: at which of its 32 grid points each of its nineteen windows is fetched
or written back, and the kernel body as the pipeline calls it at a point. -/

@[expose] public section

noncomputable section

namespace Cert.ProjIdeal.Hand

open Cert.ProjIdeal.Gen
open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%9)) is fetched at the first point only, at any contents of the tables (its index map reads none). -/
theorem fetch0_0 (a : (pcfg0 (F := F)).Adm) : ∀ t : Fin (cfg0 a).N, ((cfg0 a).win 0).fetch t = true ↔ t.val % 32 = 0 :=
  (fun t => Pipeline.Window.fetchOf_const cc0_transform_0 (fun _ _ => rfl) (n := 32) (by decide) t : ∀ t : Fin grid0.N, Pipeline.Window.fetchOf grid0 false cc0_transform_0 t = true ↔ t.val % 32 = 0)
/-- Window 1 (operand 2 (%arg0)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 0 (fun _ => rfl) (by decide)) (P := 1) (by decide) t).mpr (Nat.mod_one _) : ∀ t : Fin grid0.N, Pipeline.Window.fetchOf grid0 false cc0_transform_1 t = true)
/-- Window 2 (operand 3 (%arg1)) is fetched at the first point only, at any contents of the tables (its index map reads none). -/
theorem fetch0_2 (a : (pcfg0 (F := F)).Adm) : ∀ t : Fin (cfg0 a).N, ((cfg0 a).win 2).fetch t = true ↔ t.val % 32 = 0 :=
  (fun t => Pipeline.Window.fetchOf_const cc0_transform_2 (fun _ _ => rfl) (n := 32) (by decide) t : ∀ t : Fin grid0.N, Pipeline.Window.fetchOf grid0 false cc0_transform_2 t = true ↔ t.val % 32 = 0)
/-- Window 3 (operand 4 (%10)) is fetched at the first point only, at any contents of the tables (its index map reads none). -/
theorem fetch0_3 (a : (pcfg0 (F := F)).Adm) : ∀ t : Fin (cfg0 a).N, ((cfg0 a).win 3).fetch t = true ↔ t.val % 32 = 0 :=
  (fun t => Pipeline.Window.fetchOf_const cc0_transform_3 (fun _ _ => rfl) (n := 32) (by decide) t : ∀ t : Fin grid0.N, Pipeline.Window.fetchOf grid0 false cc0_transform_3 t = true ↔ t.val % 32 = 0)
/-- Window 4 (operand 5 (%11)) is fetched at the first point only, at any contents of the tables (its index map reads none). -/
theorem fetch0_4 (a : (pcfg0 (F := F)).Adm) : ∀ t : Fin (cfg0 a).N, ((cfg0 a).win 4).fetch t = true ↔ t.val % 32 = 0 :=
  (fun t => Pipeline.Window.fetchOf_const cc0_transform_4 (fun _ _ => rfl) (n := 32) (by decide) t : ∀ t : Fin grid0.N, Pipeline.Window.fetchOf grid0 false cc0_transform_4 t = true ↔ t.val % 32 = 0)
/-- Window 5 (result 0 (%12#0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 0 (fun _ => rfl) (by decide)) (P := 1) (m := 0) (by decide) rfl t).mpr (Nat.mod_one _) : ∀ t : Fin grid0.N, Pipeline.Window.flushOf grid0 true cc0_transform_5 t = true)
/-- Window 6 (result 1 (%12#1)) is written back at the points ≡ 7 (mod 8), at any contents of the tables (its index map reads none). -/
theorem flush0_6 (a : (pcfg0 (F := F)).Adm) : ∀ t : Fin (cfg0 a).N, ((cfg0 a).win 6).flush t = true ↔ t.val % 8 = 7 :=
  (fun t => Pipeline.Window.flushOf_reads cc0_transform_6 reads0_6 hreads0_6 0 (by decide) (by decide) (Pipeline.Window.sep_of_coord cc0_transform_6 0 1 (fun _ => rfl) (by decide)) (P := 8) (m := 7) (by decide) rfl t : ∀ t : Fin grid0.N, Pipeline.Window.flushOf grid0 true cc0_transform_6 t = true ↔ t.val % 8 = 7)
/-- Window 7 (result 2 (%12#2)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 0 (fun _ => rfl) (by decide)) (P := 1) (m := 0) (by decide) rfl t).mpr (Nat.mod_one _) : ∀ t : Fin grid0.N, Pipeline.Window.flushOf grid0 true cc0_transform_7 t = true)
/-- Window 8 (result 3 (%12#3)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 0 (fun _ => rfl) (by decide)) (P := 1) (m := 0) (by decide) rfl t).mpr (Nat.mod_one _) : ∀ t : Fin grid0.N, Pipeline.Window.flushOf grid0 true cc0_transform_8 t = true)
/-- Window 9 (result 4 (%12#4)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 1 (by decide) (by decide) (Pipeline.Window.sep_of_coord cc0_transform_9 1 0 (fun _ => rfl) (by decide)) (P := 1) (m := 0) (by decide) rfl t).mpr (Nat.mod_one _) : ∀ t : Fin grid0.N, Pipeline.Window.flushOf grid0 true cc0_transform_9 t = true)
/-- Window 10 (result 5 (%12#5)) is written back at the points ≡ 7 (mod 8), at any contents of the tables (its index map reads none). -/
theorem flush0_10 (a : (pcfg0 (F := F)).Adm) : ∀ t : Fin (cfg0 a).N, ((cfg0 a).win 10).flush t = true ↔ t.val % 8 = 7 :=
  (fun t => Pipeline.Window.flushOf_reads cc0_transform_10 reads0_10 hreads0_10 0 (by decide) (by decide) (Pipeline.Window.sep_of_coord cc0_transform_10 0 2 (fun _ => rfl) (by decide)) (P := 8) (m := 7) (by decide) rfl t : ∀ t : Fin grid0.N, Pipeline.Window.flushOf grid0 true cc0_transform_10 t = true ↔ t.val % 8 = 7)
/-- Window 11 (result 6 (%12#6)) is written back at the points ≡ 7 (mod 8), at any contents of the tables (its index map reads none). -/
theorem flush0_11 (a : (pcfg0 (F := F)).Adm) : ∀ t : Fin (cfg0 a).N, ((cfg0 a).win 11).flush t = true ↔ t.val % 8 = 7 :=
  (fun t => Pipeline.Window.flushOf_reads cc0_transform_11 reads0_11 hreads0_11 0 (by decide) (by decide) (Pipeline.Window.sep_of_coord cc0_transform_11 0 2 (fun _ => rfl) (by decide)) (P := 8) (m := 7) (by decide) rfl t : ∀ t : Fin grid0.N, Pipeline.Window.flushOf grid0 true cc0_transform_11 t = true ↔ t.val % 8 = 7)
/-- Window 12 (result 7 (%12#7)) is written back at the points ≡ 7 (mod 8), at any contents of the tables (its index map reads none). -/
theorem flush0_12 (a : (pcfg0 (F := F)).Adm) : ∀ t : Fin (cfg0 a).N, ((cfg0 a).win 12).flush t = true ↔ t.val % 8 = 7 :=
  (fun t => Pipeline.Window.flushOf_reads cc0_transform_12 reads0_12 hreads0_12 0 (by decide) (by decide) (Pipeline.Window.sep_of_coord cc0_transform_12 0 2 (fun _ => rfl) (by decide)) (P := 8) (m := 7) (by decide) rfl t : ∀ t : Fin grid0.N, Pipeline.Window.flushOf grid0 true cc0_transform_12 t = true ↔ t.val % 8 = 7)
/-- Window 13 (result 8 (%12#8)) is written back at the last point only, at any contents of the tables (its index map reads none). -/
theorem flush0_13 (a : (pcfg0 (F := F)).Adm) : ∀ t : Fin (cfg0 a).N, ((cfg0 a).win 13).flush t = true ↔ t.val % 32 = 31 :=
  (fun t => Pipeline.Window.flushOf_const cc0_transform_13 (fun _ _ => rfl) (n := 32) (by decide) rfl t : ∀ t : Fin grid0.N, Pipeline.Window.flushOf grid0 true cc0_transform_13 t = true ↔ t.val % 32 = 31)
/-- Window 14 (result 9 (%12#9)) is written back at the last point only, at any contents of the tables (its index map reads none). -/
theorem flush0_14 (a : (pcfg0 (F := F)).Adm) : ∀ t : Fin (cfg0 a).N, ((cfg0 a).win 14).flush t = true ↔ t.val % 32 = 31 :=
  (fun t => Pipeline.Window.flushOf_const cc0_transform_14 (fun _ _ => rfl) (n := 32) (by decide) rfl t : ∀ t : Fin grid0.N, Pipeline.Window.flushOf grid0 true cc0_transform_14 t = true ↔ t.val % 32 = 31)
/-- Window 15 (result 10 (%12#10)) is written back at the last point only, at any contents of the tables (its index map reads none). -/
theorem flush0_15 (a : (pcfg0 (F := F)).Adm) : ∀ t : Fin (cfg0 a).N, ((cfg0 a).win 15).flush t = true ↔ t.val % 32 = 31 :=
  (fun t => Pipeline.Window.flushOf_const cc0_transform_15 (fun _ _ => rfl) (n := 32) (by decide) rfl t : ∀ t : Fin grid0.N, Pipeline.Window.flushOf grid0 true cc0_transform_15 t = true ↔ t.val % 32 = 31)
/-- Window 16 (result 11 (%12#11)) is written back at the last point only, at any contents of the tables (its index map reads none). -/
theorem flush0_16 (a : (pcfg0 (F := F)).Adm) : ∀ t : Fin (cfg0 a).N, ((cfg0 a).win 16).flush t = true ↔ t.val % 32 = 31 :=
  (fun t => Pipeline.Window.flushOf_const cc0_transform_16 (fun _ _ => rfl) (n := 32) (by decide) rfl t : ∀ t : Fin grid0.N, Pipeline.Window.flushOf grid0 true cc0_transform_16 t = true ↔ t.val % 32 = 31)
/-- Window 17 (result 12 (%12#12)) is written back at the last point only, at any contents of the tables (its index map reads none). -/
theorem flush0_17 (a : (pcfg0 (F := F)).Adm) : ∀ t : Fin (cfg0 a).N, ((cfg0 a).win 17).flush t = true ↔ t.val % 32 = 31 :=
  (fun t => Pipeline.Window.flushOf_const cc0_transform_17 (fun _ _ => rfl) (n := 32) (by decide) rfl t : ∀ t : Fin grid0.N, Pipeline.Window.flushOf grid0 true cc0_transform_17 t = true ↔ t.val % 32 = 31)
/-- Window 18 (result 13 (%12#13)) is written back at the last point only, at any contents of the tables (its index map reads none). -/
theorem flush0_18 (a : (pcfg0 (F := F)).Adm) : ∀ t : Fin (cfg0 a).N, ((cfg0 a).win 18).flush t = true ↔ t.val % 32 = 31 :=
  (fun t => Pipeline.Window.flushOf_const cc0_transform_18 (fun _ _ => rfl) (n := 32) (by decide) rfl t : ∀ t : Fin grid0.N, Pipeline.Window.flushOf grid0 true cc0_transform_18 t = true ↔ t.val % 32 = 31)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)
abbrev st0_15 (a : (pcfg0 (F := F)).Adm) (t : Fin (cfg0 a).N) := ((cfg0 a).win 15).stage ((cfg0 a).slots t 15)
abbrev st0_16 (a : (pcfg0 (F := F)).Adm) (t : Fin (cfg0 a).N) := ((cfg0 a).win 16).stage ((cfg0 a).slots t 16)
abbrev st0_17 (a : (pcfg0 (F := F)).Adm) (t : Fin (cfg0 a).N) := ((cfg0 a).win 17).stage ((cfg0 a).slots t 17)
abbrev st0_18 (a : (pcfg0 (F := F)).Adm) (t : Fin (cfg0 a).N) := ((cfg0 a).win 18).stage ((cfg0 a).slots t 18)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_quant_qkv_rope (grid0.coords t) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (spec0_18.stage ((cfg0 a).slots t 18)) (hstage0_18 (((cfg0 a).slots t 18).cast nbuf0_18)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.ProjIdeal.Hand

end
-- ==== Proof.ProjI.Runs.lean ====
module

public import proofs.«01_k».proof.Proof.Gen.ProjIdeal.Launch
public import proofs.«01_k».proof.Proof.Gen.ProjIdeal.Skeleton
public import proofs.«01_k».proof.Proof.ProjI.Points
public import Idealize.ShloMosaic.Lib.Pipeline.FrameBody
public import Idealize.ShloMosaic.Lib.Ring
public import Idealize.ShloMosaic.Lib.Tactic
public import Idealize.ShloMosaic.Lib.WordCmp

/-! The run of the projection program up to its call: what the arrays hold when the call starts, the prefetched table,
the windows' blocks, the staging and scratch buffers, and the frame claim's post from a run's. -/

@[expose] public section

-- membership in a rectangle of production extents (`View.cover_of_tiled`): the elaborator's structural look
-- recurses once per coordinate of the long axes
set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S8 .i32 := Memref.whole main_arg4
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1140000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S64x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x512x3840 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S3840x5376 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x5376 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x5376 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x512x3840 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S8x512 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x30x128x512 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x6x512x128 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x6x128x512 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S30x8x512 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S6x8x512 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S6x8x512 .f32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x30 .f32 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x6 .f32 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S1x6 .f32 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S1x30 .f32 := spec0_16.stage ((cfgM m hO).slots t 16)
abbrev hs0_16 (hO : Ok m) (t : Fin (cfgM m hO).N) : (ms0_16 m hO t).IsWhole := hstage0_16 (((cfgM m hO).slots t 16).cast nbuf0_16)
abbrev ms0_17 (hO : Ok m) (t : Fin (cfgM m hO).N) : Memref sig .tc .vmem S1x6 .f32 := spec0_17.stage ((cfgM m hO).slots t 17)
abbrev hs0_17 (hO : Ok m) (t : Fin (cfgM m hO).N) : (ms0_17 m hO t).IsWhole := hstage0_17 (((cfgM m hO).slots t 17).cast nbuf0_17)
abbrev ms0_18 (hO : Ok m) (t : Fin (cfgM m hO).N) : Memref sig .tc .vmem S1x6 .f32 := spec0_18.stage ((cfgM m hO).slots t 18)
abbrev hs0_18 (hO : Ok m) (t : Fin (cfgM m hO).N) : (ms0_18 m hO t).IsWhole := hstage0_18 (((cfgM m hO).slots t 18).cast nbuf0_18)
/-- The scratch operands: whole scoped buffers of the kernel's own, passed beside the windows. -/
abbrev scM0_0 : Memref sig .tc .vmem S512x128 .f32 := Memref.whole cc0_scratch0
abbrev scM0_1 : Memref sig .tc .vmem S30x128 .f32 := Memref.whole cc0_scratch1
abbrev scM0_2 : Memref sig .tc .vmem S6x128 .f32 := Memref.whole cc0_scratch2
abbrev scM0_3 : Memref sig .tc .vmem S6x128 .f32 := Memref.whole cc0_scratch3

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.ProjIdeal.Hand

end
-- ==== Proof.ProjI.Run.lean ====
module

public import proofs.«01_k».proof.Proof.ProjI.Runs

/-! The run of the projection kernel's body at one grid point, on any buffers: it runs to its end and hands every buffer
back. -/

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body leaves in every buffer it writes, as functions of what it was handed, WITH the proof that it runs: on the
    inputs' buffers at `x0 … x4`, the table at `xt0` and every other buffer at any contents, the body runs to its end, the
    inputs and the table come back as they were, and the other buffers hold the witnesses. The run finds them. -/
def kernelRun0 (c : Dev nD) (i : grid0.Coords) (arg3 : Memref sig .tc .vmem S64x128 .f32) (harg3 : arg3.IsWhole) (arg4 : Memref sig .tc .vmem S1x512x3840 .bf16) (harg4 : arg4.IsWhole) (arg5 : Memref sig .tc .vmem S3840x5376 .fp8e4m3) (harg5 : arg5.IsWhole) (arg6 : Memref sig .tc .vmem S1x5376 .f32) (harg6 : arg6.IsWhole) (arg7 : Memref sig .tc .vmem S1x5376 .f32) (harg7 : arg7.IsWhole) (arg8 : Memref sig .tc .vmem S1x512x3840 .fp8e4m3) (harg8 : arg8.IsWhole) (arg9 : Memref sig .tc .vmem S8x512 .f32) (harg9 : arg9.IsWhole) (arg10 : Memref sig .tc .vmem S1x30x128x512 .bf16) (harg10 : arg10.IsWhole) (arg11 : Memref sig .tc .vmem S1x6x512x128 .bf16) (harg11 : arg11.IsWhole) (arg12 : Memref sig .tc .vmem S1x6x128x512 .bf16) (harg12 : arg12.IsWhole) (arg13 : Memref sig .tc .vmem S30x8x512 .f32) (harg13 : arg13.IsWhole) (arg14 : Memref sig .tc .vmem S6x8x512 .f32) (harg14 : arg14.IsWhole) (arg15 : Memref sig .tc .vmem S6x8x512 .f32) (harg15 : arg15.IsWhole) (arg16 : Memref sig .tc .vmem S1x30 .f32) (harg16 : arg16.IsWhole) (arg17 : Memref sig .tc .vmem S1x6 .f32) (harg17 : arg17.IsWhole) (arg18 : Memref sig .tc .vmem S1x6 .f32) (harg18 : arg18.IsWhole) (arg19 : Memref sig .tc .vmem S1x30 .f32) (harg19 : arg19.IsWhole) (arg20 : Memref sig .tc .vmem S1x6 .f32) (harg20 : arg20.IsWhole) (arg21 : Memref sig .tc .vmem S1x6 .f32) (harg21 : arg21.IsWhole) (arg22 : Memref sig .tc .vmem S512x128 .f32) (harg22 : arg22.IsWhole) (arg23 : Memref sig .tc .vmem S30x128 .f32) (harg23 : arg23.IsWhole) (arg24 : Memref sig .tc .vmem S6x128 .f32) (harg24 : arg24.IsWhole) (arg25 : Memref sig .tc .vmem S6x128 .f32) (harg25 : arg25.IsWhole)
    (x0 : Vec F S64x128 .f32) (x1 : Vec F S1x512x3840 .bf16) (x2 : Vec F S3840x5376 .fp8e4m3) (x3 : Vec F S1x5376 .f32) (x4 : Vec F S1x5376 .f32) (xt0 : TbBuf0 (F := F) c tbM0_0)
    (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F)) (f24 : arg24.view.ty.Contents (Elt F)) (f25 : arg25.view.ty.Contents (Elt F)) :
    Σ' (g8 : arg8.view.ty.Contents (Elt F)) (g9 : arg9.view.ty.Contents (Elt F)) (g10 : arg10.view.ty.Contents (Elt F)) (g11 : arg11.view.ty.Contents (Elt F)) (g12 : arg12.view.ty.Contents (Elt F)) (g13 : arg13.view.ty.Contents (Elt F)) (g14 : arg14.view.ty.Contents (Elt F)) (g15 : arg15.view.ty.Contents (Elt F)) (g16 : arg16.view.ty.Contents (Elt F)) (g17 : arg17.view.ty.Contents (Elt F)) (g18 : arg18.view.ty.Contents (Elt F)) (g19 : arg19.view.ty.Contents (Elt F)) (g20 : arg20.view.ty.Contents (Elt F)) (g21 : arg21.view.ty.Contents (Elt F)) (g22 : arg22.view.ty.Contents (Elt F)) (g23 : arg23.view.ty.Contents (Elt F)) (g24 : arg24.view.ty.Contents (Elt F)), { g25 : arg25.view.ty.Contents (Elt F) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22) ∗ (arg23.view.loc (c : Thread nD τ) ↦[arg23.view.set]{fullShare} g23) ∗ (arg24.view.loc (c : Thread nD τ) ↦[arg24.view.set]{fullShare} g24) ∗ (arg25.view.loc (c : Thread nD τ) ↦[arg25.view.set]{fullShare} g25) ∗ tbPt0 c tbM0_0 xt0) -∗ K ⟨⟩))
          ⊢ wp frame (wpE (defs₀ (F := F)) Variants.none c none) E (cc0_quant_qkv_rope i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K  } := by
  refine ⟨?_, ?_, ?_, ?_, ?_, ?_, ?_, ?_, ?_, ?_, ?_, ?_, ?_, ?_, ?_, ?_, ?_, ?_, fun E K => ?run⟩
  case run =>
    simp only [cc0_quant_qkv_rope_eq_skeleton]; unfold cc0_quant_qkv_rope_skel
    simp only [k0_part60_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
    unfold owns
    iintro ⟨⟨%p0, %ho0, H0⟩, ⟨%p1, %ho1, H1⟩, ⟨%p2, %ho2, H2⟩, ⟨%p3, %ho3, H3⟩, ⟨%p4, %ho4, H4⟩, H5, H6, H7, H8, H9, H10, H11, H12, H13, H14, H15, H16, H17, H18, HS0, HS1, HS2, HS3, HT0, Hk⟩
    obtain rfl := harg3.eq_unread ho0
    obtain rfl := harg4.eq_unread ho1
    obtain rfl := harg5.eq_unread ho2
    obtain rfl := harg6.eq_unread ho3
    obtain rfl := harg7.eq_unread ho4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [HS0]; · iexact HS0
    isplitl [HS1]; · iexact HS1
    isplitl [HS2]; · iexact HS2
    isplitl [HS3]; · iexact HS3
    iexact HT0

end Cert.ProjIdeal.Hand

end
-- ==== Proof.ProjI.Block.lean ====
module

public import proofs.«01_k».proof.Proof.ProjI.Run
public import Idealize.ShloMosaic.Lib.Pointwise

/-! What one grid point of the projection kernel computes, as functions of the blocks it is handed: the codes and scales
of its 512 tokens, each head's projection, the rotated halves, and the lists of stores the run makes, head by head. -/

@[expose] public section

set_option maxRecDepth 16384

noncomputable section

namespace Cert.ProjIdeal.Hand

open Cert.ProjIdeal.Gen
open Idealize.ShloMosaic Idealize.ShloMosaic.TcCoe Idealize.ShloMosaic.Tactic

variable {F : FTy → Type} [FloatOps F]

/-! ## Lists and chains of stores, one step per head -/

/-- The concatenation of `P 0 … P (n-1)`, last first. -/
def tower {α : Type} {N : Nat} (P : (k : Nat) → k < N → List α) : (n : Nat) → n ≤ N → List α
  | 0, _ => []
  | n + 1, h => P n h ++ tower P n (Nat.le_of_succ_le h)

theorem mem_tower {α : Type} {N : Nat} (P : (k : Nat) → k < N → List α) (p : α) :
    ∀ (n : Nat) (h : n ≤ N), p ∈ tower P n h ↔ ∃ k, ∃ hk : k < n, p ∈ P k (lt_of_lt_of_le hk h)
  | 0, _ => by simp [tower]
  | n + 1, h => by
    rw [tower, List.mem_append, mem_tower P p n]
    constructor
    · rintro (h' | ⟨k, hk, h'⟩)
      · exact ⟨n, Nat.lt_succ_self n, h'⟩
      · exact ⟨k, Nat.lt_succ_of_lt hk, h'⟩
    · rintro ⟨k, hk, h'⟩
      rcases Nat.lt_succ_iff_lt_or_eq.mp hk with hk' | rfl
      · exact .inr ⟨k, hk', h'⟩
      · exact .inl h'

/-- `W (n-1) (… (W 0 f))`. -/
def chain {α : Type} {N : Nat} (W : (k : Nat) → k < N → α → α) (f : α) : (n : Nat) → n ≤ N → α
  | 0, _ => f
  | n + 1, h => W n h (chain W f n (Nat.le_of_succ_le h))

/-! ## In-bounds facts -/

theorem inbX {n : Nat} (h : n < 8) : ∀ a, (![0, 64 * n, 0] : Fin 3 → Nat) a + S1x64x3840.size a ≤ S1x512x3840.size a := by
  intro a; fin_cases a <;> simp [Shape.size] <;> omega
theorem inbS {n : Nat} (h : n < 8) : ∀ a, (![64 * n, 0] : Fin 2 → Nat) a + S64x128.size a ≤ S512x128.size a := by
  intro a; fin_cases a <;> simp [Shape.size] <;> omega
theorem inbW {n : Nat} (h : n < 42) : ∀ a, (![0, 256 * (n / 2)] : Fin 2 → Nat) a + S3840x256.size a ≤ S3840x5376.size a := by
  intro a; fin_cases a <;> simp [Shape.size] <;> omega
theorem inbV {n : Nat} (h : n < 42) : ∀ a, (![0, 128 * n] : Fin 2 → Nat) a + S1x128.size a ≤ S1x5376.size a := by
  intro a; fin_cases a <;> simp [Shape.size] <;> omega
theorem inbQlo {n : Nat} (h : n < 30) : ∀ a, (![0, n, 0, 0] : Fin 4 → Nat) a + S1x1x64x512.size a ≤ S1x30x128x512.size a := by
  intro a; fin_cases a <;> simp [Shape.size] <;> omega
theorem inbQhi {n : Nat} (h : n < 30) : ∀ a, (![0, n, 64, 0] : Fin 4 → Nat) a + S1x1x64x512.size a ≤ S1x30x128x512.size a := by
  intro a; fin_cases a <;> simp [Shape.size] <;> omega
theorem inbK {n : Nat} (h : n < 6) : ∀ a, (![0, n, 0, 0] : Fin 4 → Nat) a + S1x1x512x128.size a ≤ S1x6x512x128.size a := by
  intro a; fin_cases a <;> simp [Shape.size] <;> omega
theorem inbVt {n : Nat} (h : n < 6) : ∀ a, (![0, n, 0, 0] : Fin 4 → Nat) a + S1x1x128x512.size a ≤ S1x6x128x512.size a := by
  intro a; fin_cases a <;> simp [Shape.size] <;> omega
theorem slicesHead {n : Nat} : S512x256.Slices ![0, 128 * (n % 2)] S512x128 := by
  rcases Nat.mod_two_eq_zero_or_one n with h | h <;> rw [h]
  · exact slices_S512x256_o0_0_S512x128
  · exact slices_S512x256_o0_128_S512x128

/-! ## Codes and scales -/

/-- The tokens 64 n … 64 n + 63 of the block. -/
def xRows (x1 : Vec F S1x512x3840 .bf16) (n : Nat) (h : n < 8) : Vec F S1x64x3840 .bf16 :=
  View.ld x1 (Rect.unit ![0, 64 * n, 0] S1x64x3840.size (inbX h))

/-- The stores of the codes, 64 tokens at a time. -/
def codePieces (x1 : Vec F S1x512x3840 .bf16) : List (View.Piece (Elt F) S1x512x3840 .fp8e4m3) :=
  tower (N := 8) (fun n h => [⟨Rect.unit ![0, 64 * n, 0] S1x64x3840.size (inbX h), k0_pay21 (k0_pay20 (xRows x1 n h))⟩]) 8 le_rfl

/-- The stores of the scales, 64 tokens at a time, each scale along a row of 128 lanes. -/
def xsbPieces (x1 : Vec F S1x512x3840 .bf16) : List (View.Piece (Elt F) S512x128 .f32) :=
  tower (N := 8) (fun n h => [⟨Rect.unit ![64 * n, 0] S64x128.size (inbS h), k0_pay22 (k0_pay19 (xRows x1 n h))⟩]) 8 le_rfl

/-- The codes of the block's tokens. -/
def codesB (x1 : Vec F S1x512x3840 .bf16) : Vec F S1x512x3840 .fp8e4m3 := View.canon (codePieces x1)
/-- The scales of the block's tokens, each along a row of 128 lanes. -/
def xsbB (x1 : Vec F S1x512x3840 .bf16) : Vec F S512x128 .f32 := View.canon (xsbPieces x1)

/-! ## The heads -/

/-- Head `n`'s projection of the block's tokens, scaled, with the bias, rounded, one token per column. -/
def headT (codes : Vec F S1x512x3840 .fp8e4m3) (xsb : Vec F S512x128 .f32) (x2 : Vec F S3840x5376 .fp8e4m3)
    (x3 x4 : Vec F S1x5376 .f32) (n : Nat) (h : n < 42) : FVec F S128x512 .bf16 :=
  transpose S128x512 [1, 0]
    (truncf .bf16
      (addf
        (mulf
          (extractStridedSlice S512x128 ![0, 128 * (n % 2)]
            (k0_pay70 codes (View.ld x2 (Rect.unit ![0, 256 * (n / 2)] S3840x256.size (inbW h)))) slicesHead)
          (mulf xsb
            (broadcastTo S512x128
              (shapeCast S1x128 (View.ld x3 (Rect.unit ![0, 128 * n] S1x128.size (inbV h))) shapeCasts_S1x128_S1x128)
              broadcasts_S1x128_S512x128)))
        (broadcastTo S512x128
          (shapeCast S1x128 (View.ld x4 (Rect.unit ![0, 128 * n] S1x128.size (inbV h))) shapeCasts_S1x128_S1x128)
          broadcasts_S1x128_S512x128))
      bitsLt_bf16_f32)
    transposes_S512x128_p1_0_S128x512

/-- The first 64 coordinates of a head, read back at 32 bits. -/
def loHalf (T : FVec F S128x512 .bf16) : FVec F S64x512 .f32 :=
  extf .f32 (extractStridedSlice S64x512 ![0, 0] T slices_S128x512_o0_0_S64x512) bitsLt_bf16_f32
/-- The last 64 coordinates of a head. -/
def hiHalf (T : FVec F S128x512 .bf16) : FVec F S64x512 .bf16 :=
  extractStridedSlice S64x512 ![64, 0] T slices_S128x512_o64_0_S64x512

/-- The rotated first and last halves, of a head `T` by the cosines `cs` and sines `sn`. -/
def rotLo (cs sn : FVec F S64x512 .f32) (T : FVec F S128x512 .bf16) : FVec F S64x512 .bf16 := k0_pay75 cs sn (loHalf T) (hiHalf T)
def rotHi (cs sn : FVec F S64x512 .f32) (T : FVec F S128x512 .bf16) : FVec F S64x512 .bf16 := k0_pay76 cs sn (loHalf T) (hiHalf T)

/-- The cosines and sines at the block's positions: block `i 0` of a sequence that begins at `pos`. -/
def cosB (i : grid0.Coords) (pos : Elt F .i32) (x0 : Vec F S64x128 .f32) : FVec F S64x512 .f32 :=
  k0_pay67 (BitVec.ofNat 32 (i 0).val) pos (View.ld x0 (Rect.unit ![0, 0] S64x1.size inb_S64x128_S64x1_0_0))
def sinB (i : grid0.Coords) (pos : Elt F .i32) (x0 : Vec F S64x128 .f32) : FVec F S64x512 .f32 :=
  k0_pay68 (BitVec.ofNat 32 (i 0).val) pos (View.ld x0 (Rect.unit ![0, 0] S64x1.size inb_S64x128_S64x1_0_0))

/-- The stores of the rotated query heads. -/
def qPieces (cs sn : FVec F S64x512 .f32) (T : (n : Nat) → n < 42 → FVec F S128x512 .bf16) :
    List (View.Piece (Elt F) S1x30x128x512 .bf16) :=
  tower (N := 30) (fun n h =>
    [⟨Rect.unit ![0, n, 64, 0] S1x1x64x512.size (inbQhi h),
        shapeCast S1x1x64x512 (rotHi cs sn (T n (by omega))) shapeCasts_S64x512_S1x1x64x512⟩,
     ⟨Rect.unit ![0, n, 0, 0] S1x1x64x512.size (inbQlo h),
        shapeCast S1x1x64x512 (rotLo cs sn (T n (by omega))) shapeCasts_S64x512_S1x1x64x512⟩]) 30 le_rfl

/-- The stores of the rotated key heads, one token per row. -/
def kPieces (cs sn : FVec F S64x512 .f32) (T : (n : Nat) → n < 42 → FVec F S128x512 .bf16) :
    List (View.Piece (Elt F) S1x6x512x128 .bf16) :=
  tower (N := 6) (fun n h =>
    [⟨Rect.unit ![0, n, 0, 0] S1x1x512x128.size (inbK h),
        shapeCast S1x1x512x128 (transpose S512x128 [1, 0]
          (concatenate S128x512 0 [⟨S64x512, rotLo cs sn (T (30 + n) (by omega))⟩, ⟨S64x512, rotHi cs sn (T (30 + n) (by omega))⟩]
            concatenates_S64x512_S64x512_S128x512_d0)
          transposes_S128x512_p1_0_S512x128) shapeCasts_S512x128_S1x1x512x128⟩]) 6 le_rfl

/-- The stores of the value heads. -/
def vPieces (T : (n : Nat) → n < 42 → FVec F S128x512 .bf16) : List (View.Piece (Elt F) S1x6x128x512 .bf16) :=
  tower (N := 6) (fun n h =>
    [⟨Rect.unit ![0, n, 0, 0] S1x1x128x512.size (inbVt h),
        shapeCast S1x1x128x512 (T (36 + n) (by omega)) shapeCasts_S128x512_S1x1x128x512⟩]) 6 le_rfl

/-! ## The absolute maxima of a block's rows, and the running maxima -/

theorem inbR {N n : Nat} (h : n < N) : ∀ a, (![n, 0, 0] : Fin 3 → Nat) a + S1x8x512.size a ≤ (⟨3, ![N, 8, 512]⟩ : Shape).size a := by
  intro a; fin_cases a <;> simp [Shape.size] <;> omega
theorem inbXs {n : Nat} (h : n < 4) : ∀ a, (![0, 128 * n] : Fin 2 → Nat) a + S8x128.size a ≤ S8x512.size a := by
  intro a; fin_cases a <;> simp [Shape.size] <;> omega
theorem inbXb {n : Nat} (h : n < 4) : ∀ a, (![128 * n, 0] : Fin 2 → Nat) a + S128x128.size a ≤ S512x128.size a := by
  intro a; fin_cases a <;> simp [Shape.size] <;> omega

/-- The greatest magnitude of a rotated head, token by token, the same on each of eight rows. -/
def rowRot (cs sn : FVec F S64x512 .f32) (T : FVec F S128x512 .bf16) : FVec F S1x8x512 .f32 := k0_pay79 cs sn (loHalf T) (hiHalf T)
/-- The greatest magnitude of a head as it is. -/
def rowPlain (T : FVec F S128x512 .bf16) : FVec F S1x8x512 .f32 := k0_pay1 (absf T)
/-- Which rows are written: row `i 1`. -/
def rowMask (i : grid0.Coords) : IVec S1x8x512 1 := k0_pay80 (BitVec.ofNat 32 (i 1).val)
def xsMask (i : grid0.Coords) : IVec S8x128 1 := k0_pay58 (BitVec.ofNat 32 (i 1).val)

/-- Is this the first grid point; the last of its tile; the last of all. -/
def isFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1
def isTileEnd (i : grid0.Coords) : Prop :=
  Scalar.cmpi .ne (Scalar.extui (Scalar.cmpi .eq (BitVec.ofNat 32 (i 1).val) 7#32) : BitVec 32) 0#32 = 1#1
def isLast (i : grid0.Coords) : Prop := k0_cond3 i = 1#1
instance (i : grid0.Coords) : Decidable (isFirst i) := by unfold isFirst; infer_instance
instance (i : grid0.Coords) : Decidable (isTileEnd i) := by unfold isTileEnd; infer_instance
instance (i : grid0.Coords) : Decidable (isLast i) := by unfold isLast; infer_instance

/-- The running maxima of the query heads after a point, from what they were (`a`) and the row maxima (`R`). -/
def accQ (i : grid0.Coords) (a : Vec F S30x128 .f32) (R : Vec F S30x8x512 .f32) : Vec F S30x128 .f32 :=
  if isTileEnd i then
    k0_pay10 (if isFirst i then k0_pay3 else a)
      (View.ld R (Rect.unit ![0, 0, 0] S30x8x128.size inb_S30x8x512_S30x8x128_0_0_0))
      (View.ld R (Rect.unit ![0, 0, 128] S30x8x128.size inb_S30x8x512_S30x8x128_0_0_128))
      (View.ld R (Rect.unit ![0, 0, 256] S30x8x128.size inb_S30x8x512_S30x8x128_0_0_256))
      (View.ld R (Rect.unit ![0, 0, 384] S30x8x128.size inb_S30x8x512_S30x8x128_0_0_384))
  else if isFirst i then k0_pay3 else a

/-- The same for the key heads -/
def accK (i : grid0.Coords) (a : Vec F S6x128 .f32) (R : Vec F S6x8x512 .f32) : Vec F S6x128 .f32 :=
  if isTileEnd i then
    k0_pay12 (k0_pay11 (if isFirst i then k0_pay4 else a)
        (View.ld R (Rect.unit ![0, 0, 0] S6x8x128.size inb_S6x8x512_S6x8x128_0_0_0))
        (View.ld R (Rect.unit ![0, 0, 128] S6x8x128.size inb_S6x8x512_S6x8x128_0_0_128)))
      (View.ld R (Rect.unit ![0, 0, 256] S6x8x128.size inb_S6x8x512_S6x8x128_0_0_256))
      (View.ld R (Rect.unit ![0, 0, 384] S6x8x128.size inb_S6x8x512_S6x8x128_0_0_384))
  else if isFirst i then k0_pay4 else a

/-- and for the value heads. -/
def accV (i : grid0.Coords) (a : Vec F S6x128 .f32) (R : Vec F S6x8x512 .f32) : Vec F S6x128 .f32 :=
  if isTileEnd i then
    k0_pay6 (k0_pay13 (if isFirst i then k0_pay5 else a)
        (View.ld R (Rect.unit ![0, 0, 0] S6x8x128.size inb_S6x8x512_S6x8x128_0_0_0))
        (View.ld R (Rect.unit ![0, 0, 128] S6x8x128.size inb_S6x8x512_S6x8x128_0_0_128))
        (View.ld R (Rect.unit ![0, 0, 256] S6x8x128.size inb_S6x8x512_S6x8x128_0_0_256))
        (View.ld R (Rect.unit ![0, 0, 384] S6x8x128.size inb_S6x8x512_S6x8x128_0_0_384)))
  else if isFirst i then k0_pay5 else a

section
variable (c : Dev nD) (i : grid0.Coords)
  (arg3 : Memref sig .tc .vmem S64x128 .f32) (harg3 : arg3.IsWhole) (arg4 : Memref sig .tc .vmem S1x512x3840 .bf16) (harg4 : arg4.IsWhole) (arg5 : Memref sig .tc .vmem S3840x5376 .fp8e4m3) (harg5 : arg5.IsWhole) (arg6 : Memref sig .tc .vmem S1x5376 .f32) (harg6 : arg6.IsWhole) (arg7 : Memref sig .tc .vmem S1x5376 .f32) (harg7 : arg7.IsWhole)
  (arg8 : Memref sig .tc .vmem S1x512x3840 .fp8e4m3) (arg22 : Memref sig .tc .vmem S512x128 .f32)
  (x0 : Vec F S64x128 .f32) (x1 : Vec F S1x512x3840 .bf16) (x2 : Vec F S3840x5376 .fp8e4m3) (x3 : Vec F S1x5376 .f32) (x4 : Vec F S1x5376 .f32) (xt0 : TbBuf0 (F := F) c tbM0_0)

theorem H5_eq : kernelRun0.sl.H5_8 c arg4 harg4 x1 = codePieces x1 := by
  have h : kernelRun0.sl.H5_8 c arg4 harg4 x1 = codePieces (arg4.view.read (Elt F) (harg4.unread x1)) := rfl
  rw [h, harg4.read_unread]

theorem HS0_eq : kernelRun0.sl.HS0_8 c arg4 harg4 x1 = xsbPieces x1 := by
  have h : kernelRun0.sl.HS0_8 c arg4 harg4 x1 = xsbPieces (arg4.view.read (Elt F) (harg4.unread x1)) := rfl
  rw [h, harg4.read_unread]

/-- The table's entry the body reads at its grid point. -/
abbrev posW : Elt F .i32 := kernelRun0.sl.r_20 c i xt0

set_option maxHeartbeats 4000000 in
theorem H7_eq : kernelRun0.sl.H7_60 c i arg3 harg3 arg4 harg4 arg5 harg5 arg6 harg6 arg7 harg7 arg8 arg22 x0 x1 x2 x3 x4 xt0
    = qPieces (cosB i (posW c i xt0) x0) (sinB i (posW c i xt0) x0)
        (headT (kernelRun0.sl.v515 c arg4 harg4 arg8 x1) (kernelRun0.sl.v517 c arg4 harg4 arg22 x1) x2 x3 x4) := by
  have h : kernelRun0.sl.H7_60 c i arg3 harg3 arg4 harg4 arg5 harg5 arg6 harg6 arg7 harg7 arg8 arg22 x0 x1 x2 x3 x4 xt0
    = qPieces (cosB i (posW c i xt0) (arg3.view.read (Elt F) (harg3.unread x0))) (sinB i (posW c i xt0) (arg3.view.read (Elt F) (harg3.unread x0)))
        (headT (kernelRun0.sl.v515 c arg4 harg4 arg8 x1) (kernelRun0.sl.v517 c arg4 harg4 arg22 x1)
          (arg5.view.read (Elt F) (harg5.unread x2)) (arg6.view.read (Elt F) (harg6.unread x3)) (arg7.view.read (Elt F) (harg7.unread x4))) := rfl
  rw [h, harg3.read_unread, harg5.read_unread, harg6.read_unread, harg7.read_unread]

set_option maxHeartbeats 4000000 in
theorem H8_eq : kernelRun0.sl.H8_6 c i arg3 harg3 arg4 harg4 arg5 harg5 arg6 harg6 arg7 harg7 arg8 arg22 x0 x1 x2 x3 x4 xt0
    = kPieces (cosB i (posW c i xt0) x0) (sinB i (posW c i xt0) x0)
        (headT (kernelRun0.sl.v515 c arg4 harg4 arg8 x1) (kernelRun0.sl.v517 c arg4 harg4 arg22 x1) x2 x3 x4) := by
  have h : kernelRun0.sl.H8_6 c i arg3 harg3 arg4 harg4 arg5 harg5 arg6 harg6 arg7 harg7 arg8 arg22 x0 x1 x2 x3 x4 xt0
    = kPieces (cosB i (posW c i xt0) (arg3.view.read (Elt F) (harg3.unread x0))) (sinB i (posW c i xt0) (arg3.view.read (Elt F) (harg3.unread x0)))
        (headT (kernelRun0.sl.v515 c arg4 harg4 arg8 x1) (kernelRun0.sl.v517 c arg4 harg4 arg22 x1)
          (arg5.view.read (Elt F) (harg5.unread x2)) (arg6.view.read (Elt F) (harg6.unread x3)) (arg7.view.read (Elt F) (harg7.unread x4))) := rfl
  rw [h, harg3.read_unread, harg5.read_unread, harg6.read_unread, harg7.read_unread]

set_option maxHeartbeats 4000000 in
theorem H9_eq : kernelRun0.sl.H9_6 c arg4 harg4 arg5 harg5 arg6 harg6 arg7 harg7 arg8 arg22 x1 x2 x3 x4
    = vPieces (headT (kernelRun0.sl.v515 c arg4 harg4 arg8 x1) (kernelRun0.sl.v517 c arg4 harg4 arg22 x1) x2 x3 x4) := by
  have h : kernelRun0.sl.H9_6 c arg4 harg4 arg5 harg5 arg6 harg6 arg7 harg7 arg8 arg22 x1 x2 x3 x4
    = vPieces (headT (kernelRun0.sl.v515 c arg4 harg4 arg8 x1) (kernelRun0.sl.v517 c arg4 harg4 arg22 x1)
          (arg5.view.read (Elt F) (harg5.unread x2)) (arg6.view.read (Elt F) (harg6.unread x3)) (arg7.view.read (Elt F) (harg7.unread x4))) := rfl
  rw [h, harg5.read_unread, harg6.read_unread, harg7.read_unread]
end

end Cert.ProjIdeal.Hand

end
-- ==== Proof.ProjI.Reads.lean ====
module

public import proofs.«01_k».proof.Proof.ProjI.Block

/-! What the run leaves in each buffer, read back: the covered outputs as the stores' contents, the row outputs as the old
contents with one row replaced, the running maxima. -/

@[expose] public section

set_option maxRecDepth 16384

noncomputable section

namespace Cert.ProjIdeal.Hand

open Cert.ProjIdeal.Gen
open Idealize.ShloMosaic Idealize.ShloMosaic.TcCoe Idealize.ShloMosaic.Tactic

variable {F : FTy → Type} [FloatOps F]

/-! ## Covers -/

theorem cover_codes (x1 : Vec F S1x512x3840 .bf16) (y : S1x512x3840.Idx) : ∃ p ∈ codePieces x1, y ∈ p.1.set := by
  idx_vars y
  refine ⟨_, (mem_tower _ _ _ _).2 ⟨y1.val / 64, by omega, List.mem_singleton_self _⟩, ?_⟩
  rw [Rect.mem_set_unit]
  intro a; fin_cases a <;> simp [Shape.size, ix3] <;> omega

theorem cover_xsb (x1 : Vec F S1x512x3840 .bf16) (y : S512x128.Idx) : ∃ p ∈ xsbPieces x1, y ∈ p.1.set := by
  idx_vars y
  refine ⟨_, (mem_tower _ _ _ _).2 ⟨y0.val / 64, by omega, List.mem_singleton_self _⟩, ?_⟩
  rw [Rect.mem_set_unit]
  intro a; fin_cases a <;> simp [Shape.size, ix2] <;> omega

theorem cover_q (cs sn : FVec F S64x512 .f32) (T : (n : Nat) → n < 42 → FVec F S128x512 .bf16) (y : S1x30x128x512.Idx) :
    ∃ p ∈ qPieces cs sn T, y ∈ p.1.set := by
  idx_vars y
  by_cases h : y2.val < 64
  · refine ⟨_, (mem_tower _ _ _ _).2 ⟨y1.val, y1.isLt, List.mem_cons_of_mem _ (List.mem_singleton_self _)⟩, ?_⟩
    rw [Rect.mem_set_unit]
    intro a; fin_cases a <;> simp [Shape.size, ix4] <;> omega
  · refine ⟨_, (mem_tower _ _ _ _).2 ⟨y1.val, y1.isLt, List.mem_cons_self⟩, ?_⟩
    rw [Rect.mem_set_unit]
    intro a; fin_cases a <;> simp [Shape.size, ix4] <;> omega

theorem cover_k (cs sn : FVec F S64x512 .f32) (T : (n : Nat) → n < 42 → FVec F S128x512 .bf16) (y : S1x6x512x128.Idx) :
    ∃ p ∈ kPieces cs sn T, y ∈ p.1.set := by
  idx_vars y
  refine ⟨_, (mem_tower _ _ _ _).2 ⟨y1.val, y1.isLt, List.mem_singleton_self _⟩, ?_⟩
  rw [Rect.mem_set_unit]
  intro a; fin_cases a <;> simp [Shape.size, ix4] <;> omega

theorem cover_v (T : (n : Nat) → n < 42 → FVec F S128x512 .bf16) (y : S1x6x128x512.Idx) :
    ∃ p ∈ vPieces T, y ∈ p.1.set := by
  idx_vars y
  refine ⟨_, (mem_tower _ _ _ _).2 ⟨y1.val, y1.isLt, List.mem_singleton_self _⟩, ?_⟩
  rw [Rect.mem_set_unit]
  intro a; fin_cases a <;> simp [Shape.size, ix4] <;> omega

/-! ## Masked stores in a chain -/

/-- A buffer read after a chain of masked stores whose payloads all agree with `G` where the mask is set. -/
theorem read_chain {κ : Kind} {sp : Space} {s : Shape} {e : EltTy} {N : Nat} (v : View sig κ sp s e)
    (R : (k : Nat) → k < N → Rect s) (w : (k : Nat) → (h : k < N) → (R k h).shape.Idx → Elt F e)
    (M : (k : Nat) → (h : k < N) → Finset (R k h).shape.Idx) (G : s.Idx → Elt F e) (f : v.ty.Contents (Elt F))
    (hG : ∀ k h, ∀ x ∈ M k h, w k h x = G ((R k h).emb x)) (P : s.Idx → Prop) [DecidablePred P]
    (hP : ∀ y, P y ↔ ∃ k h, y ∈ (M k h).map (R k h).emb) (y : s.Idx) :
    v.read (Elt F) (chain (fun k h g => View.write (Elt F) (v.slice (R k h)) g (w k h) (M k h)) f N le_rfl) y
      = if P y then G y else v.read (Elt F) f y := by
  have key : ∀ (n : Nat) (hn : n ≤ N),
      ((∃ k, ∃ hk : k < n, y ∈ (M k (lt_of_lt_of_le hk hn)).map (R k (lt_of_lt_of_le hk hn)).emb) →
        v.read (Elt F) (chain (fun k h g => View.write (Elt F) (v.slice (R k h)) g (w k h) (M k h)) f n hn) y = G y) ∧
      ((¬ ∃ k, ∃ hk : k < n, y ∈ (M k (lt_of_lt_of_le hk hn)).map (R k (lt_of_lt_of_le hk hn)).emb) →
        v.read (Elt F) (chain (fun k h g => View.write (Elt F) (v.slice (R k h)) g (w k h) (M k h)) f n hn) y = v.read (Elt F) f y) := by
    intro n
    induction n with
    | zero => intro hn; exact ⟨fun ⟨k, hk, _⟩ => absurd hk (Nat.not_lt_zero _), fun _ => rfl⟩
    | succ n ih =>
      intro hn
      obtain ⟨ih1, ih2⟩ := ih (Nat.le_of_succ_le hn)
      by_cases hm : y ∈ (M n hn).map (R n hn).emb
      · refine ⟨fun _ => ?_, fun h => absurd ⟨n, Nat.lt_succ_self n, hm⟩ h⟩
        obtain ⟨x, hx, rfl⟩ := Finset.mem_map.mp hm
        rw [chain, View.read_slice_write_emb _ _ _ hx]; exact hG _ _ x hx
      · rw [chain, View.read_slice_write_of_not_mem _ _ _ _ hm]
        refine ⟨fun ⟨k, hk, h⟩ => ih1 ?_, fun h => ih2 fun ⟨k, hk, h'⟩ => h ⟨k, Nat.lt_succ_of_lt hk, h'⟩⟩
        rcases Nat.lt_succ_iff_lt_or_eq.mp hk with hk' | rfl
        · exact ⟨k, hk', h⟩
        · exact absurd h hm
  by_cases hy : P y
  · rw [if_pos hy]; obtain ⟨k, h, hm⟩ := (hP y).1 hy; exact (key N le_rfl).1 ⟨k, h, hm⟩
  · rw [if_neg hy]; exact (key N le_rfl).2 fun ⟨k, h, hm⟩ => hy ((hP y).2 ⟨k, h, hm⟩)

/-- Row `i 1` replaced by the heads' rows, the others as they were. -/
def rowsNew {N : Nat} (i : grid0.Coords) (row : (n : Nat) → n < N → FVec F S1x8x512 .f32) (Y : Vec F ⟨3, ![N, 8, 512]⟩ .f32) :
    Vec F ⟨3, ![N, 8, 512]⟩ .f32 :=
  fun y => if (y 1).val = (i 1).val then row (y 0).val (y 0).isLt (ix3 (0 : Fin 1) (y 1) (y 2)) else Y y

theorem cmpi_eq_ofNat {a b : Nat} (ha : a < 512) (hb : b < 512) :
    IntOp.cmpi .eq (BitVec.ofNat 32 a) (BitVec.ofNat 32 b) = 1 ↔ a = b := by
  have : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  by_cases h : a = b
  · subst h; simp [IntOp.cmpi]
  · have hne : (BitVec.ofNat 32 a == BitVec.ofNat 32 b) = false := by rw [beq_eq_false_iff_ne]; exact fun e => h (this.1 e)
    simp only [IntOp.cmpi, hne, h, iff_false]
    decide

theorem mem_rowMask (i : grid0.Coords) (x : S1x8x512.Idx) : x ∈ (rowMask i).on ↔ (x 1).val = (i 1).val := by
  have hi : (i 1).val < 8 := (i 1).isLt
  simp only [IVec.on, Finset.mem_filter, Finset.mem_univ, true_and]
  unfold rowMask k0_pay80
  idx_vars x
  pointwise
  exact cmpi_eq_ofNat (by omega) (by omega)

theorem mem_xsMask (i : grid0.Coords) (x : S8x128.Idx) : x ∈ (xsMask i).on ↔ (x 0).val = (i 1).val := by
  have hi : (i 1).val < 8 := (i 1).isLt
  simp only [IVec.on, Finset.mem_filter, Finset.mem_univ, true_and]
  unfold xsMask k0_pay58
  idx_vars x
  pointwise
  exact cmpi_eq_ofNat (by omega) (by omega)

theorem chain_step {α : Type} {N : Nat} {W : (k : Nat) → k < N → α → α} {f a a' : α} {n : Nat} {h : n + 1 ≤ N} (hw : a = W n h a')
    (ha : a' = chain W f n (Nat.le_of_succ_le h)) : a = chain W f (n + 1) h := by rw [chain, ← ha, hw]

/-- The chain of masked row stores of `N` heads. -/
abbrev rowChain {κ : Kind} {sp : Space} {N : Nat} (v : View sig κ sp ⟨3, ![N, 8, 512]⟩ .f32) (i : grid0.Coords)
    (row : (n : Nat) → n < N → FVec F S1x8x512 .f32) (f : v.ty.Contents (Elt F)) : v.ty.Contents (Elt F) :=
  chain (N := N) (fun n h g => View.write (Elt F) (v.slice (Rect.unit ![n, 0, 0] S1x8x512.size (inbR h))) g (row n h) (rowMask i).on) f N le_rfl

theorem read_rows {κ : Kind} {sp : Space} {N : Nat} (v : View sig κ sp ⟨3, ![N, 8, 512]⟩ .f32) (i : grid0.Coords)
    (row : (n : Nat) → n < N → FVec F S1x8x512 .f32) (f : v.ty.Contents (Elt F)) :
    v.read (Elt F) (rowChain v i row f) = rowsNew i row (v.read (Elt F) f) := by
  funext y
  refine read_chain v (fun n h => Rect.unit ![n, 0, 0] S1x8x512.size (inbR h)) (fun n h => row n h) (fun _ _ => (rowMask i).on)
    (fun y => row (y 0).val (y 0).isLt (ix3 (0 : Fin 1) (y 1) (y 2))) f ?_ (fun y => (y 1).val = (i 1).val) ?_ y
  · intro k h x _
    idx_vars x
    have h0 : ((Rect.unit (s := (⟨3, ![N, 8, 512]⟩ : Shape)) ![k, 0, 0] S1x8x512.size (inbR h)).emb (ix3 x0 x1 x2) 0).val = k := by
      show k + 1 * x0.val = k; omega
    have h1 : (Rect.unit (s := (⟨3, ![N, 8, 512]⟩ : Shape)) ![k, 0, 0] S1x8x512.size (inbR h)).emb (ix3 x0 x1 x2) 1 = x1 :=
      Fin.ext (show 0 + 1 * x1.val = x1.val by omega)
    have h2 : (Rect.unit (s := (⟨3, ![N, 8, 512]⟩ : Shape)) ![k, 0, 0] S1x8x512.size (inbR h)).emb (ix3 x0 x1 x2) 2 = x2 :=
      Fin.ext (show 0 + 1 * x2.val = x2.val by omega)
    have ha : x0 = 0 := Subsingleton.elim _ _
    subst ha
    have key : ∀ (m : Nat) (hm : m < N), m = k → row k h = row m hm := by intro m hm e; subst e; rfl
    show row k h _ = row _ _ (ix3 0 ((Rect.unit (s := (⟨3, ![N, 8, 512]⟩ : Shape)) ![k, 0, 0] S1x8x512.size (inbR h)).emb (ix3 0 x1 x2) 1)
      ((Rect.unit (s := (⟨3, ![N, 8, 512]⟩ : Shape)) ![k, 0, 0] S1x8x512.size (inbR h)).emb (ix3 0 x1 x2) 2))
    rw [h1, h2]
    exact congrFun (key _ _ h0) _
  · intro y
    constructor
    · intro hy
      refine ⟨(y 0).val, (y 0).isLt, Finset.mem_map.2 ⟨ix3 (0 : Fin 1) (y 1) (y 2), (mem_rowMask i _).2 hy, ?_⟩⟩
      funext a; apply Fin.ext
      match a with
      | ⟨0, _⟩ => show (y 0).val + 1 * 0 = (y 0).val; omega
      | ⟨1, _⟩ => show 0 + 1 * (y 1).val = (y 1).val; omega
      | ⟨2, _⟩ => show 0 + 1 * (y 2).val = (y 2).val; omega
    · rintro ⟨k, h, hm⟩
      obtain ⟨x, hx, rfl⟩ := Finset.mem_map.1 hm
      rw [← (mem_rowMask i x).1 hx]
      show 0 + 1 * (x 1).val = (x 1).val; omega

/-- The scales of the block, along the lanes: what is stored of them into row `i 1`. -/
def xsRow (xsb : Vec F S512x128 .f32) (n : Nat) (h : n < 4) : FVec F S8x128 .f32 :=
  k0_pay57 (View.ld xsb (Rect.unit ![128 * n, 0] S128x128.size (inbXb h)))

/-- The chain of masked stores of the scales. -/
abbrev xsChain {κ : Kind} {sp : Space} (v : View sig κ sp S8x512 .f32) (i : grid0.Coords) (xsb : Vec F S512x128 .f32)
    (f : v.ty.Contents (Elt F)) : v.ty.Contents (Elt F) :=
  chain (N := 4) (fun n h g => View.write (Elt F) (v.slice (Rect.unit ![0, 128 * n] S8x128.size (inbXs h))) g (xsRow xsb n h) (xsMask i).on) f 4 le_rfl

/-- Row `i 1` of the scales replaced by the block's, the others as they were. -/
def xsNew (i : grid0.Coords) (xsb : Vec F S512x128 .f32) (Y : Vec F S8x512 .f32) : Vec F S8x512 .f32 :=
  fun y => if (y 0).val = (i 1).val then
      xsRow xsb ((y 1).val / 128) (by have h : (y 1).val < 512 := (y 1).isLt; omega)
        (ix2 (y 0 : Fin 8) (⟨(y 1).val % 128, Nat.mod_lt _ (by decide)⟩ : Fin 128))
    else Y y

theorem read_xs {κ : Kind} {sp : Space} (v : View sig κ sp S8x512 .f32) (i : grid0.Coords) (xsb : Vec F S512x128 .f32)
    (f : v.ty.Contents (Elt F)) : v.read (Elt F) (xsChain v i xsb f) = xsNew i xsb (v.read (Elt F) f) := by
  funext y
  refine read_chain v (fun n h => Rect.unit ![0, 128 * n] S8x128.size (inbXs h)) (fun n h => xsRow xsb n h) (fun _ _ => (xsMask i).on)
    (fun y => xsRow xsb ((y 1).val / 128) (by have h : (y 1).val < 512 := (y 1).isLt; omega)
        (ix2 (y 0 : Fin 8) (⟨(y 1).val % 128, Nat.mod_lt _ (by decide)⟩ : Fin 128))) f ?_ (fun y => (y 0).val = (i 1).val) ?_ y
  · intro k h x _
    idx_vars x
    have h0 : (Rect.unit (s := S8x512) ![0, 128 * k] S8x128.size (inbXs h)).emb (ix2 x0 x1) 0 = x0 :=
      Fin.ext (show 0 + 1 * x0.val = x0.val by omega)
    have h1 : ((Rect.unit (s := S8x512) ![0, 128 * k] S8x128.size (inbXs h)).emb (ix2 x0 x1) 1).val = 128 * k + x1.val := by
      show 128 * k + 1 * x1.val = _; omega
    have h2 : ((Rect.unit (s := S8x512) ![0, 128 * k] S8x128.size (inbXs h)).emb (ix2 x0 x1) 1).val / 128 = k := by rw [h1]; omega
    have h3 : (⟨((Rect.unit (s := S8x512) ![0, 128 * k] S8x128.size (inbXs h)).emb (ix2 x0 x1) 1).val % 128, Nat.mod_lt _ (by decide)⟩ : Fin 128) = x1 :=
      Fin.ext (by show _ % 128 = _; rw [h1]; omega)
    have key : ∀ (m : Nat) (hm : m < 4), m = k → xsRow xsb k h = xsRow xsb m hm := by intro m hm e; subst e; rfl
    show xsRow xsb k h _ = xsRow xsb _ _ (ix2 ((Rect.unit (s := S8x512) ![0, 128 * k] S8x128.size (inbXs h)).emb (ix2 x0 x1) 0) _)
    rw [h0, h3]
    exact congrFun (key _ _ h2) _
  · intro y
    have hy1 : (y 1).val < 512 := (y 1).isLt
    constructor
    · intro hy
      refine ⟨(y 1).val / 128, by omega, Finset.mem_map.2 ⟨ix2 (y 0 : Fin 8) (⟨(y 1).val % 128, Nat.mod_lt _ (by decide)⟩ : Fin 128), (mem_xsMask i _).2 hy, ?_⟩⟩
      funext a; apply Fin.ext
      match a with
      | ⟨0, _⟩ => show 0 + 1 * (y 0).val = (y 0).val; omega
      | ⟨1, _⟩ => show 128 * ((y 1).val / 128) + 1 * ((y 1).val % 128) = (y 1).val; omega
    · rintro ⟨k, h, hm⟩
      obtain ⟨x, hx, rfl⟩ := Finset.mem_map.1 hm
      rw [← (mem_xsMask i x).1 hx]
      show 0 + 1 * (x 0).val = (x 0).val; omega

/-- One store of the whole leaves its payload. -/
theorem read_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ fun y => ⟨_, List.mem_singleton_self _, View.mem_set_unit_zero h inb y⟩, View.canon_unit_zero h]

theorem zero2 : (![0, 0] : Fin 2 → Nat) = fun _ => 0 := by funext a; fin_cases a <;> rfl
theorem zero3 : (![0, 0, 0] : Fin 3 → Nat) = fun _ => 0 := by funext a; fin_cases a <;> rfl

section
variable (c : Dev nD) (i : grid0.Coords)
  (arg3 : Memref sig .tc .vmem S64x128 .f32) (harg3 : arg3.IsWhole) (arg4 : Memref sig .tc .vmem S1x512x3840 .bf16) (harg4 : arg4.IsWhole) (arg5 : Memref sig .tc .vmem S3840x5376 .fp8e4m3) (harg5 : arg5.IsWhole) (arg6 : Memref sig .tc .vmem S1x5376 .f32) (harg6 : arg6.IsWhole) (arg7 : Memref sig .tc .vmem S1x5376 .f32) (harg7 : arg7.IsWhole)
  (arg8 : Memref sig .tc .vmem S1x512x3840 .fp8e4m3) (arg9 : Memref sig .tc .vmem S8x512 .f32)
  (arg13 : Memref sig .tc .vmem S30x8x512 .f32) (arg14 : Memref sig .tc .vmem S6x8x512 .f32) (arg15 : Memref sig .tc .vmem S6x8x512 .f32) (arg22 : Memref sig .tc .vmem S512x128 .f32)
  (x0 : Vec F S64x128 .f32) (x1 : Vec F S1x512x3840 .bf16) (x2 : Vec F S3840x5376 .fp8e4m3) (x3 : Vec F S1x5376 .f32) (x4 : Vec F S1x5376 .f32) (xt0 : TbBuf0 (F := F) c tbM0_0)
  (f9 : arg9.view.ty.Contents (Elt F)) (f13 : arg13.view.ty.Contents (Elt F)) (f14 : arg14.view.ty.Contents (Elt F)) (f15 : arg15.view.ty.Contents (Elt F))

theorem v515_eq : kernelRun0.sl.v515 c arg4 harg4 arg8 x1 = codesB x1 := by
  have h : kernelRun0.sl.v515 c arg4 harg4 arg8 x1 = arg8.view.readCov (kernelRun0.sl.H5_8 c arg4 harg4 x1) (Rect.unit ![0, 0, 0] S1x512x3840.size inb_S1x512x3840_S1x512x3840_0_0_0) := rfl
  rw [h, H5_eq, View.readCov_eq_canon_ld _ _ _ fun y => cover_codes x1 _, View.ld_unit_zero zero3]
  rfl

theorem v517_eq : kernelRun0.sl.v517 c arg4 harg4 arg22 x1 = xsbB x1 := by
  have h : kernelRun0.sl.v517 c arg4 harg4 arg22 x1 = arg22.view.readCov (kernelRun0.sl.HS0_8 c arg4 harg4 x1) (Rect.unit ![0, 0] S512x128.size inb_S512x128_S512x128_0_0) := rfl
  rw [h, HS0_eq, View.readCov_eq_canon_ld _ _ _ fun y => cover_xsb x1 _, View.ld_unit_zero zero2]
  rfl

/-- The projection of head `n` from the point's blocks. -/
def headB (x1 : Vec F S1x512x3840 .bf16) (x2 : Vec F S3840x5376 .fp8e4m3) (x3 x4 : Vec F S1x5376 .f32) (n : Nat) (h : n < 42) :
    FVec F S128x512 .bf16 := headT (codesB x1) (xsbB x1) x2 x3 x4 n h

theorem readS (n : Nat) (hn : n < 4) :
    arg22.view.readCov (kernelRun0.sl.HS0_8 c arg4 harg4 x1) (Rect.unit (s := S512x128) ![128 * n, 0] S128x128.size (inbXb hn))
      = View.ld (xsbB x1) (Rect.unit ![128 * n, 0] S128x128.size (inbXb hn)) := by
  rw [HS0_eq, View.readCov_eq_canon_ld _ _ _ fun y => cover_xsb x1 _]; rfl

end

end Cert.ProjIdeal.Hand

end
-- ==== Proof.ProjI.Rows.lean ====
module

public import proofs.«01_k».proof.Proof.ProjI.Reads

/-! The masked stores of the row outputs, read off the run: each is the chain of one masked store per head. -/

@[expose] public section

set_option maxRecDepth 16384

noncomputable section

namespace Cert.ProjIdeal.Hand

open Cert.ProjIdeal.Gen
open Idealize.ShloMosaic Idealize.ShloMosaic.TcCoe Idealize.ShloMosaic.Tactic

variable {F : FTy → Type} [FloatOps F]

section
variable (c : Dev nD) (i : grid0.Coords)
  (arg3 : Memref sig .tc .vmem S64x128 .f32) (harg3 : arg3.IsWhole) (arg4 : Memref sig .tc .vmem S1x512x3840 .bf16) (harg4 : arg4.IsWhole) (arg5 : Memref sig .tc .vmem S3840x5376 .fp8e4m3) (harg5 : arg5.IsWhole) (arg6 : Memref sig .tc .vmem S1x5376 .f32) (harg6 : arg6.IsWhole) (arg7 : Memref sig .tc .vmem S1x5376 .f32) (harg7 : arg7.IsWhole)
  (arg8 : Memref sig .tc .vmem S1x512x3840 .fp8e4m3) (arg9 : Memref sig .tc .vmem S8x512 .f32)
  (arg13 : Memref sig .tc .vmem S30x8x512 .f32) (arg14 : Memref sig .tc .vmem S6x8x512 .f32) (arg15 : Memref sig .tc .vmem S6x8x512 .f32) (arg22 : Memref sig .tc .vmem S512x128 .f32)
  (x0 : Vec F S64x128 .f32) (x1 : Vec F S1x512x3840 .bf16) (x2 : Vec F S3840x5376 .fp8e4m3) (x3 : Vec F S1x5376 .f32) (x4 : Vec F S1x5376 .f32) (xt0 : TbBuf0 (F := F) c tbM0_0)
  (f9 : arg9.view.ty.Contents (Elt F)) (f13 : arg13.view.ty.Contents (Elt F)) (f14 : arg14.view.ty.Contents (Elt F)) (f15 : arg15.view.ty.Contents (Elt F))

/-- The chain of masked stores of four blocks of 128 scales `S 0 … S 3`. -/
abbrev xsChainOf {κ : Kind} {sp : Space} (v : View sig κ sp S8x512 .f32) (i : grid0.Coords) (S : (n : Nat) → n < 4 → Vec F S128x128 .f32)
    (f : v.ty.Contents (Elt F)) : v.ty.Contents (Elt F) :=
  chain (N := 4) (fun n h g => View.write (Elt F) (v.slice (Rect.unit ![0, 128 * n] S8x128.size (inbXs h))) g (k0_pay57 (S n h)) (xsMask i).on) f 4 le_rfl

set_option maxHeartbeats 1000000 in
theorem H6_eq : kernelRun0.sl.H6_w4 c i arg4 harg4 arg9 arg22 x1 f9 = xsChain arg9.view i (xsbB x1) f9 := by
  have h : kernelRun0.sl.H6_w4 c i arg4 harg4 arg9 arg22 x1 f9
    = xsChainOf arg9.view i (fun n h => arg22.view.readCov (kernelRun0.sl.HS0_8 c arg4 harg4 x1) (Rect.unit (s := S512x128) ![128 * n, 0] S128x128.size (inbXb h))) f9 := by
    iterate 4 refine chain_step rfl ?_
    rfl
  have hS : (fun (n : Nat) (h : n < 4) => arg22.view.readCov (kernelRun0.sl.HS0_8 c arg4 harg4 x1) (Rect.unit (s := S512x128) ![128 * n, 0] S128x128.size (inbXb h)))
    = fun n h => View.ld (xsbB x1) (Rect.unit ![128 * n, 0] S128x128.size (inbXb h)) := by
    funext n hn; exact readS c arg4 harg4 arg22 x1 n hn
  exact h.trans (congrArg (fun S => xsChainOf arg9.view i S f9) hS)
set_option maxHeartbeats 2000000 in
theorem H10_eq : kernelRun0.sl.H10_w34 c i arg3 harg3 arg4 harg4 arg5 harg5 arg6 harg6 arg7 harg7 arg8 arg13 arg22 x0 x1 x2 x3 x4 xt0 f13
    = rowChain (N := 30) arg13.view i (fun n h => rowRot (cosB i (posW c i xt0) x0) (sinB i (posW c i xt0) x0) (headB x1 x2 x3 x4 n (by omega))) f13 := by
  have h : kernelRun0.sl.H10_w34 c i arg3 harg3 arg4 harg4 arg5 harg5 arg6 harg6 arg7 harg7 arg8 arg13 arg22 x0 x1 x2 x3 x4 xt0 f13
    = rowChain (N := 30) arg13.view i (fun n h => rowRot (cosB i (posW c i xt0) (arg3.view.read (Elt F) (harg3.unread x0))) (sinB i (posW c i xt0) (arg3.view.read (Elt F) (harg3.unread x0)))
        (headT (kernelRun0.sl.v515 c arg4 harg4 arg8 x1) (kernelRun0.sl.v517 c arg4 harg4 arg22 x1)
          (arg5.view.read (Elt F) (harg5.unread x2)) (arg6.view.read (Elt F) (harg6.unread x3)) (arg7.view.read (Elt F) (harg7.unread x4)) n (by omega))) f13 := by
    iterate 30 refine chain_step rfl ?_
    rfl
  rw [h, harg3.read_unread, harg5.read_unread, harg6.read_unread, harg7.read_unread, v515_eq, v517_eq]
  rfl

set_option maxHeartbeats 2000000 in
theorem H11_eq : kernelRun0.sl.H11_w40 c i arg3 harg3 arg4 harg4 arg5 harg5 arg6 harg6 arg7 harg7 arg8 arg14 arg22 x0 x1 x2 x3 x4 xt0 f14
    = rowChain (N := 6) arg14.view i (fun n h => rowRot (cosB i (posW c i xt0) x0) (sinB i (posW c i xt0) x0) (headB x1 x2 x3 x4 (30 + n) (by omega))) f14 := by
  have h : kernelRun0.sl.H11_w40 c i arg3 harg3 arg4 harg4 arg5 harg5 arg6 harg6 arg7 harg7 arg8 arg14 arg22 x0 x1 x2 x3 x4 xt0 f14
    = rowChain (N := 6) arg14.view i (fun n h => rowRot (cosB i (posW c i xt0) (arg3.view.read (Elt F) (harg3.unread x0))) (sinB i (posW c i xt0) (arg3.view.read (Elt F) (harg3.unread x0)))
        (headT (kernelRun0.sl.v515 c arg4 harg4 arg8 x1) (kernelRun0.sl.v517 c arg4 harg4 arg22 x1)
          (arg5.view.read (Elt F) (harg5.unread x2)) (arg6.view.read (Elt F) (harg6.unread x3)) (arg7.view.read (Elt F) (harg7.unread x4)) (30 + n) (by omega))) f14 := by
    iterate 6 refine chain_step rfl ?_
    rfl
  rw [h, harg3.read_unread, harg5.read_unread, harg6.read_unread, harg7.read_unread, v515_eq, v517_eq]
  rfl

set_option maxHeartbeats 2000000 in
theorem H12_eq : kernelRun0.sl.H12_w46 c i arg4 harg4 arg5 harg5 arg6 harg6 arg7 harg7 arg8 arg15 arg22 x1 x2 x3 x4 f15
    = rowChain (N := 6) arg15.view i (fun n h => rowPlain (headB x1 x2 x3 x4 (36 + n) (by omega))) f15 := by
  have h : kernelRun0.sl.H12_w46 c i arg4 harg4 arg5 harg5 arg6 harg6 arg7 harg7 arg8 arg15 arg22 x1 x2 x3 x4 f15
    = rowChain (N := 6) arg15.view i (fun n h => rowPlain
        (headT (kernelRun0.sl.v515 c arg4 harg4 arg8 x1) (kernelRun0.sl.v517 c arg4 harg4 arg22 x1)
          (arg5.view.read (Elt F) (harg5.unread x2)) (arg6.view.read (Elt F) (harg6.unread x3)) (arg7.view.read (Elt F) (harg7.unread x4)) (36 + n) (by omega))) f15 := by
    iterate 6 refine chain_step rfl ?_
    rfl
  rw [h, harg5.read_unread, harg6.read_unread, harg7.read_unread, v515_eq, v517_eq]
  rfl

end

end Cert.ProjIdeal.Hand

end
-- ==== Proof.Value.Maxima.lean ====
module

public import Idealize.ShloMosaic.PureOps
public import Idealize.ShloMosaic.PureOps.Ideal.Laws
public import Idealize.ShloMosaic.Lib.Pointwise
public import Idealize.ShloMosaic.Lib.StableHlo

/-! Maxima along one axis, over the extended reals: each is the supremum of the entries along that axis. -/

@[expose] public section

noncomputable section

namespace Cert.Value

open Idealize.ShloMosaic

/-- A fold of the maximum from −∞ is the supremum. -/
theorem fold_max {n : ℕ} {φ : FTy} (f : Fin n → EReal) :
    (Finset.univ : Finset (Fin n)).fold (FloatOps.maximumf (F := Ideal) (φ := φ)) (⊥ : EReal) f = ⨆ k, f k := by
  rw [← Finset.sup_univ_eq_iSup]; rfl

theorem ofBits_bot32 : Ideal.ofBits .f32 0xFF800000#32 = ⊥ := by simp [Ideal.ofBits, Ideal.ieee]
theorem ofBits_bot16 : Ideal.ofBits .bf16 0xFF80#16 = ⊥ := by simp [Ideal.ofBits, Ideal.ieee]

/-- A host maximum along axis `a` is the supremum along it. -/
theorem hostMax {s t u : Shape} {φ : FTy} {a : Fin s.rank} (x : FVec Ideal s φ) (b : BitVec φ.bits) (hb : Ideal.ofBits φ b = ⊥)
    (h' : s.ReducesTo [a] t) (h : s.Reduces [a] t) (hu : 0 < u.numel) (j : t.Idx) :
    Host.reduce FloatOps.maximumf x (constant u φ b) h' hu j = ⨆ k, x (h.lift j k) := by
  rw [Host.reduce_eq_fold_single _ x _ h' h hu j]
  show Finset.univ.fold _ (Ideal.ofBits φ b) _ = _
  rw [hb, fold_max]; rfl

/-- A kernel's maximum along axis `a` is the supremum along it. -/
theorem kernelMax {s t : Shape} {φ : FTy} {a : Fin s.rank} (x : FVec Ideal s φ) (b : BitVec φ.bits) (hb : Ideal.ofBits φ b = ⊥)
    (h : s.Reduces [a] t) (hφ : FKind.Formats φ) (hacc : b = FKind.maximumf.neutral φ hφ) (j : t.Idx) :
    multiReduction .maximumf [a] t x b h hφ hacc j = ⨆ k, x (h.lift j k) := by
  classical
  rw [multiReduction_maximumf_eq_fold, h.fold_filter_drop_single]
  show Finset.univ.fold _ (Ideal.ofBits φ b) _ = _
  rw [hb, fold_max]; rfl

/-- The source index of a reduction of the last axis of three. -/
theorem lift_three {n0 n1 n2 : ℕ} (h : Shape.Reduces ⟨3, ![n0, n1, n2]⟩ [2] ⟨2, ![n0, n1]⟩) (a : Fin n0) (b : Fin n1) (k : Fin n2) :
    h.lift (ix2 a b) k = ix3 a b k := by
  funext c; apply Fin.ext; fin_cases c <;> rfl
theorem lift_four {n0 n1 n2 n3 : ℕ} (h : Shape.Reduces ⟨4, ![n0, n1, n2, n3]⟩ [3] ⟨3, ![n0, n1, n2]⟩) (a : Fin n0) (b : Fin n1) (c : Fin n2) (k : Fin n3) :
    h.lift (ix3 a b c) k = ix4 a b c k := by
  funext c; apply Fin.ext; fin_cases c <;> rfl
theorem lift_row {n0 n1 : ℕ} (h : Shape.Reduces ⟨2, ![n0, n1]⟩ [1] ⟨1, ![n0]⟩) (a : Fin n0) (k : Fin n1) :
    h.lift (ix1 a) k = ix2 a k := by
  funext c; apply Fin.ext; fin_cases c <;> rfl
theorem lift_col {n0 n1 : ℕ} (h : Shape.Reduces ⟨2, ![n0, n1]⟩ [0] ⟨1, ![n1]⟩) (a : Fin n1) (k : Fin n0) :
    h.lift (ix1 a) k = ix2 k a := by
  funext c; apply Fin.ext; fin_cases c <;> rfl

/-- The maximum over 128 coordinates is the maximum over 64 of the larger of two halves. -/
theorem iSup_halves (f g h : ℕ → EReal) (hf : ∀ j < 64, h j = f j) (hg : ∀ j < 64, h (64 + j) = g j) :
    ⨆ j : Fin 64, max (f j.val) (g j.val) = ⨆ j : Fin 128, h j.val := by
  refine le_antisymm (iSup_le fun j => max_le ?_ ?_) (iSup_le fun j => ?_)
  · rw [← hf j.val j.isLt]; exact le_iSup (fun j : Fin 128 => h j.val) ⟨j.val, by omega⟩
  · rw [← hg j.val j.isLt]; exact le_iSup (fun j : Fin 128 => h j.val) ⟨64 + j.val, by omega⟩
  · by_cases hj : j.val < 64
    · rw [hf _ hj]; exact (le_max_left _ _).trans (le_iSup (fun j : Fin 64 => max (f j.val) (g j.val)) ⟨j.val, hj⟩)
    · have e : j.val = 64 + (j.val - 64) := by omega
      rw [e, hg _ (by omega)]
      exact (le_max_right _ _).trans (le_iSup (fun j : Fin 64 => max (f j.val) (g j.val)) ⟨j.val - 64, by omega⟩)

end Cert.Value
end
-- ==== Proof.Value.Spec.lean ====
module

public import proofs.«01_k».proof.Proof.Value.Maxima

/-! The projection's results over the extended reals, entry by entry, as functions of the arguments and of the power of two
each token is scaled by. -/

@[expose] public section

noncomputable section

namespace Cert.Value

open Idealize.ShloMosaic

/-- The exponent a token of largest magnitude `a` is given: 0 of a zero token, else ⌊log₂ (a / 448)⌋ + 1. -/
def refE {F : FTy → Type} [FloatOps F] (a : F .f32) : F .f32 :=
  Scalar.select (FloatOps.cmpf CmpFPredicate.oeq a (FloatOps.ofBits FTy.f32 0#32)) (FloatOps.ofBits FTy.f32 0#32)
    (FloatOps.addf
      (FloatOps.hostUnary HostUnaryOp.floor
        (FloatOps.hostDivf (FloatOps.hostUnary HostUnaryOp.log (FloatOps.mulf a (FloatOps.ofBits FTy.f32 0x3B124925#32)))
          (FloatOps.hostUnary HostUnaryOp.log (FloatOps.ofBits FTy.f32 0x40000000#32))))
      (FloatOps.ofBits FTy.f32 0x3F800000#32))
/-- Two to that exponent: the token's scale. -/
def refXs {F : FTy → Type} [FloatOps F] (a : F .f32) : F .f32 := FloatOps.hostPowf (FloatOps.ofBits FTy.f32 0x40000000#32) (refE a)
/-- Two to its negation: what the token is multiplied by. -/
def refInv {F : FTy → Type} [FloatOps F] (a : F .f32) : F .f32 := FloatOps.hostPowf (FloatOps.ofBits FTy.f32 0x40000000#32) (FloatOps.hostNegf (refE a))

/-- The arguments: tokens, weights, their scales, bias, and where each sequence begins. -/
structure Args where
  x : FVec Ideal ⟨3, ![8, 2048, 3840]⟩ .bf16
  w : FVec Ideal ⟨2, ![3840, 5376]⟩ .fp8e4m3
  ws : FVec Ideal ⟨1, ![5376]⟩ .f32
  bi : FVec Ideal ⟨1, ![5376]⟩ .f32
  pos : IVec ⟨1, ![8]⟩ 32

/-- The magnitude of a number. -/
def mag (v : EReal) : EReal := FloatOps.absf (F := Ideal) (φ := .f32) v

/-- The largest magnitude of token `s` of sequence `b`. -/
def Args.amax (A : Args) (b : Fin 8) (s : Fin 2048) : EReal := ⨆ d : Fin 3840, mag (A.x (ix3 b s d))

/-- A coordinate of a token, multiplied and clipped to ±448: its code. -/
def clip (v : EReal) : EReal := min (Ideal.ofBits .f32 0x43E00000#32) (max (Ideal.ofBits .f32 0xC3E00000#32) v)
def Args.code (A : Args) (inv : EReal → EReal) (b : Fin 8) (s : Fin 2048) (d : Fin 3840) : EReal :=
  clip (A.x (ix3 b s d) * inv (A.amax b s))

/-- Column `e` of a token's projection: the codes' product, scaled, with the bias. -/
def Args.lin (A : Args) (sc inv : EReal → EReal) (b : Fin 8) (s : Fin 2048) (e : Fin 5376) : EReal :=
  (∑ d, A.code inv b s d * A.w (ix2 d e)) * (sc (A.amax b s) * A.ws (ix1 e)) + A.bi (ix1 e)

/-- Coordinate `j` of head `n`. -/
def Args.head (A : Args) (sc inv : EReal → EReal) (n : Fin 42) (b : Fin 8) (s : Fin 2048) (j : Fin 128) : EReal :=
  A.lin sc inv b s ⟨n.val * 128 + j.val, by omega⟩

/-- Frequency `j`: 500000 to the −2 j / 128. -/
def freq (j : ℕ) : EReal :=
  Ideal.pow (Ideal.ofBits .f32 0x48F42400#32)
    (Ideal.div (-(Ideal.ofBits .f32 0x40000000#32 * FloatOps.sitofp (F := Ideal) .f32 (BitVec.ofNat 32 j))) (Ideal.ofBits .f32 0x43000000#32))
/-- The angle of a token's pair `j`: its position times frequency `j`. -/
def Args.angle (A : Args) (b : Fin 8) (s : Fin 2048) (j : ℕ) : EReal :=
  FloatOps.sitofp (F := Ideal) .f32 (IntOp.addi (A.pos (ix1 b)) (BitVec.ofNat 32 s.val)) * freq j

/-- The rotary embedding of a head. -/
def Args.rot (A : Args) (sc inv : EReal → EReal) (n : Fin 42) (b : Fin 8) (s : Fin 2048) (j : Fin 128) : EReal :=
  if h : j.val < 64 then
    A.head sc inv n b s j * Ideal.cos (A.angle b s j.val)
      - A.head sc inv n b s ⟨64 + j.val, by omega⟩ * Ideal.sin (A.angle b s j.val)
  else
    A.head sc inv n b s j * Ideal.cos (A.angle b s (j.val - 64))
      + A.head sc inv n b s ⟨j.val - 64, by omega⟩ * Ideal.sin (A.angle b s (j.val - 64))

theorem Args.rot_lo (A : Args) (sc inv : EReal → EReal) (n : Fin 42) (b : Fin 8) (s : Fin 2048) (j : Fin 128) (h : j.val < 64) :
    A.rot sc inv n b s j = A.head sc inv n b s j * Ideal.cos (A.angle b s j.val)
      - A.head sc inv n b s ⟨64 + j.val, by omega⟩ * Ideal.sin (A.angle b s j.val) := by unfold rot; rw [dif_pos h]
theorem Args.rot_hi (A : Args) (sc inv : EReal → EReal) (n : Fin 42) (b : Fin 8) (s : Fin 2048) (j : Fin 128) (h : ¬ j.val < 64) :
    A.rot sc inv n b s j = A.head sc inv n b s j * Ideal.cos (A.angle b s (j.val - 64))
      + A.head sc inv n b s ⟨j.val - 64, by omega⟩ * Ideal.sin (A.angle b s (j.val - 64)) := by unfold rot; rw [dif_neg h]

/-- The largest magnitude of a rotated head, and of a plain one. -/
def Args.rowRot (A : Args) (sc inv : EReal → EReal) (n : Fin 42) (b : Fin 8) (s : Fin 2048) : EReal := ⨆ j, mag (A.rot sc inv n b s j)
def Args.rowHead (A : Args) (sc inv : EReal → EReal) (n : Fin 42) (b : Fin 8) (s : Fin 2048) : EReal := ⨆ j, mag (A.head sc inv n b s j)

/-- Two ways of scaling that agree on every token give the same results. -/
theorem Args.code_congr (A : Args) {inv inv' : EReal → EReal} (hi : ∀ b s, inv (A.amax b s) = inv' (A.amax b s)) : A.code inv = A.code inv' := by
  funext b s d; unfold code; rw [hi]
theorem Args.head_congr (A : Args) {sc sc' inv inv' : EReal → EReal} (hs : ∀ b s, sc (A.amax b s) = sc' (A.amax b s))
    (hi : ∀ b s, inv (A.amax b s) = inv' (A.amax b s)) : A.head sc inv = A.head sc' inv' := by
  funext n b s j; unfold head lin; rw [A.code_congr hi, hs]
theorem Args.rot_congr (A : Args) {sc sc' inv inv' : EReal → EReal} (hs : ∀ b s, sc (A.amax b s) = sc' (A.amax b s))
    (hi : ∀ b s, inv (A.amax b s) = inv' (A.amax b s)) : A.rot sc inv = A.rot sc' inv' := by
  funext n b s j; unfold rot; rw [A.head_congr hs hi]
theorem Args.rowRot_congr (A : Args) {sc sc' inv inv' : EReal → EReal} (hs : ∀ b s, sc (A.amax b s) = sc' (A.amax b s))
    (hi : ∀ b s, inv (A.amax b s) = inv' (A.amax b s)) : A.rowRot sc inv = A.rowRot sc' inv' := by
  funext n b s; unfold rowRot; rw [A.rot_congr hs hi]
theorem Args.rowHead_congr (A : Args) {sc sc' inv inv' : EReal → EReal} (hs : ∀ b s, sc (A.amax b s) = sc' (A.amax b s))
    (hi : ∀ b s, inv (A.amax b s) = inv' (A.amax b s)) : A.rowHead sc inv = A.rowHead sc' inv' := by
  funext n b s; unfold rowHead; rw [A.head_congr hs hi]

theorem Args.head_eq (A : Args) (sc inv : EReal → EReal) (n : Fin 42) (b : Fin 8) (s : Fin 2048) (j : Fin 128) (e : Fin 5376)
    (he : e.val = n.val * 128 + j.val) : A.lin sc inv b s e = A.head sc inv n b s j := by
  unfold head; congr 1; exact Fin.ext he

/-- Columns of equal number are equal. -/
theorem col_eq {N a b : ℕ} {ha : a < N} (h : a = b) : (⟨a, ha⟩ : Fin N) = ⟨b, h ▸ ha⟩ := Fin.ext h

end Cert.Value
end
-- ==== Proof.Value.Exponent.lean ====
module

public import proofs.«01_k».proof.Proof.Value.Spec
public import Idealize.ShloMosaic.Lib.Pointwise

/-! The exponent of a token, found by comparing with every power of two: it is the reference's ⌊log₂⌋ + 1, and the two
powers of two made from its bits are the reference's. -/

@[expose] public section

set_option maxRecDepth 16384
set_option maxHeartbeats 1000000

noncomputable section

namespace Cert.Value

open Idealize.ShloMosaic Idealize.ShloMosaic.Tactic

/-- Two to the `n - 127`, by its bits. -/
def pow2 (n : BitVec 32) : EReal := Ideal.ofBits .f32 (IntOp.shli ArithUnit.vector n 23#32)

/-- The largest `n` with 2 ^ (n - 127) not above `v`; 0 if there is none. -/
def biased (v : EReal) : BitVec 32 :=
  Finset.fold IntOp.maxsi (2147483648#32) (fun x : Fin 256 => if v < pow2 (BitVec.ofNat 32 x.val) then 0#32 else BitVec.ofNat 32 x.val) Finset.univ

/-- The exponent of a token of largest magnitude `a`. -/
def kerE (a : EReal) : BitVec 32 :=
  Scalar.select (IntOp.cmpi CmpIPredicate.eq (biased (a * Ideal.ofBits .f32 0x3B124925#32)) 0#32) (0#32)
    (IntOp.subi (biased (a * Ideal.ofBits .f32 0x3B124925#32)) 126#32)
/-- The token's scale, and what the token is multiplied by. -/
def kerXs (a : EReal) : EReal := pow2 (IntOp.addi (kerE a) 127#32)
def kerInv (a : EReal) : EReal := pow2 (IntOp.addi (IntOp.subi (0#32) (kerE a)) 127#32)

/-- What the precondition says of a token. -/
def Ok (a : EReal) : Prop :=
  a = 0 ∨ (Ideal.ofBits .f32 0x00800000#32 ≤ a * Ideal.ofBits .f32 0x3B124925#32 ∧ a ≤ Ideal.ofBits .f32 0x7F7F0000#32)

theorem bits_of : ∀ n : Fin 256, (IntOp.shli ArithUnit.vector (BitVec.ofNat 32 n.val) 23#32).extractLsb' 31 1 = 0#1
    ∧ ((IntOp.shli ArithUnit.vector (BitVec.ofNat 32 n.val) 23#32).extractLsb' 23 8).toNat = n.val
    ∧ ((IntOp.shli ArithUnit.vector (BitVec.ofNat 32 n.val) 23#32).extractLsb' 0 23).toNat = 0 := by decide +kernel

theorem pow2_eq (n : ℕ) (h : 1 ≤ n) (h' : n ≤ 254) : pow2 (BitVec.ofNat 32 n) = (((2 : ℝ) ^ ((n : ℤ) - 127) : ℝ) : EReal) := by
  obtain ⟨e1, e2, e3⟩ := bits_of ⟨n, by omega⟩
  unfold pow2 Ideal.ofBits Ideal.ieee
  simp only [] at e1 e2 e3
  simp only [show 8 + 23 = 31 from rfl]
  rw [e1, e2, e3]
  rw [if_neg (by norm_num; omega), if_neg (by omega)]
  refine congrArg Real.toEReal ?_
  have h23 : (2 : ℝ) ^ ((n : ℤ) - 127) = (2 : ℝ) ^ (23 : ℤ) * (2 : ℝ) ^ ((n : ℤ) - 150) := by
    rw [← zpow_add₀ (by norm_num)]; exact congrArg _ (by omega)
  have hexp : ((n : ℤ) - (2 ^ (8 - 1) - 1) - ((23 : ℕ) : ℤ)) = (n : ℤ) - 150 := by
    rw [show ((2 : ℤ) ^ (8 - 1)) = 128 from rfl]; omega
  have hneg : (if ((0#1 : BitVec 1) == 1#1) = true then (-1 : ℝ) else 1) = 1 := if_neg (by decide)
  have hm : (((2 ^ 23 + 0 : ℕ) : ℕ) : ℝ) = (2 : ℝ) ^ (23 : ℤ) := by norm_num
  rw [h23, hexp, hneg, hm, one_mul]

theorem pow2_zero : pow2 (BitVec.ofNat 32 0) = 0 := by
  unfold pow2; exact Ideal.ofBits_zero_f32
theorem pow2_top : pow2 (BitVec.ofNat 32 255) = ⊤ := by
  obtain ⟨e1, e2, e3⟩ := bits_of ⟨255, by omega⟩
  unfold pow2 Ideal.ofBits Ideal.ieee
  simp only [] at e1 e2 e3
  simp only [show 8 + 23 = 31 from rfl]
  rw [e1, e2, e3]
  norm_num

theorem fold_upto : ∀ k : Fin 256, Finset.fold IntOp.maxsi (2147483648#32) (fun x : Fin 256 => if k.val < x.val then 0#32 else BitVec.ofNat 32 x.val) Finset.univ = BitVec.ofNat 32 k.val := by
  decide +kernel

theorem biased_eq (v : EReal) (k : Fin 256) (h : ∀ x : Fin 256, v < pow2 (BitVec.ofNat 32 x.val) ↔ k.val < x.val) : biased v = BitVec.ofNat 32 k.val := by
  rw [← fold_upto k]; unfold biased
  congr 1; funext x
  exact if_congr (h x) rfl rfl

/-- Between 2 ^ (k - 127) and its double, the exponent is `k`. -/
theorem biased_real (r : ℝ) (k : ℕ) (h1 : 1 ≤ k) (h2 : k ≤ 253) (hl : (2 : ℝ) ^ ((k : ℤ) - 127) ≤ r) (hu : r < (2 : ℝ) ^ ((k : ℤ) + 1 - 127)) :
    biased (r : EReal) = BitVec.ofNat 32 k := by
  refine biased_eq _ ⟨k, by omega⟩ fun x => ?_
  have hpos : 0 < r := lt_of_lt_of_le (by positivity) hl
  rcases Nat.eq_zero_or_pos x.val with hx | hx
  · rw [hx, pow2_zero]
    simp only [Nat.not_lt_zero, iff_false, not_lt]
    exact_mod_cast hpos.le
  · by_cases hx' : x.val = 255
    · rw [hx', pow2_top]
      exact ⟨fun _ => by show k < 255; omega, fun _ => EReal.coe_lt_top r⟩
    · rw [pow2_eq _ hx (by have := x.isLt; omega), EReal.coe_lt_coe_iff]
      constructor
      · intro h
        have := (zpow_lt_zpow_iff_right₀ (by norm_num : (1 : ℝ) < 2)).1 (lt_of_le_of_lt hl h)
        show k < x.val; omega
      · intro h
        have h : k < x.val := h
        exact lt_of_lt_of_le hu (zpow_le_zpow_right₀ (by norm_num) (by omega))

theorem biased_zero : biased 0 = 0#32 := by
  refine biased_eq _ ⟨0, by omega⟩ fun x => ?_
  rcases Nat.eq_zero_or_pos x.val with hx | hx
  · rw [hx, pow2_zero]; simp
  · refine ⟨fun _ => hx, fun _ => ?_⟩
    by_cases hx' : x.val = 255
    · rw [hx', pow2_top]; exact EReal.coe_lt_top 0
    · rw [pow2_eq _ hx (by have := x.isLt; omega)]
      have : (0 : ℝ) < 2 ^ ((x.val : ℤ) - 127) := by positivity
      exact_mod_cast this

/-- The words of the exponent. -/
theorem words : ∀ k : Fin 253, 1 ≤ k.val →
    Scalar.select (IntOp.cmpi CmpIPredicate.eq (BitVec.ofNat 32 k.val) 0#32) (0#32) (IntOp.subi (BitVec.ofNat 32 k.val) 126#32) = BitVec.ofNat 32 k.val - 126#32
    ∧ IntOp.addi (BitVec.ofNat 32 k.val - 126#32) 127#32 = BitVec.ofNat 32 (k.val + 1)
    ∧ IntOp.addi (IntOp.subi (0#32) (BitVec.ofNat 32 k.val - 126#32)) 127#32 = BitVec.ofNat 32 (253 - k.val) := by decide +kernel

theorem c448 : ∃ c : ℝ, Ideal.ofBits .f32 0x3B124925#32 = (c : EReal) ∧ 0 < c ∧ c < (2 : ℝ) ^ (-2 : ℤ) := by
  refine ⟨_, by simp [Ideal.ofBits, Ideal.ieee]; rfl, by norm_num, by norm_num⟩
theorem low : Ideal.ofBits .f32 0x00800000#32 = (((2 : ℝ) ^ (-126 : ℤ) : ℝ) : EReal) := by
  have := pow2_eq 1 le_rfl (by omega)
  unfold pow2 at this
  refine Eq.trans ?_ (this.trans ?_)
  · rfl
  · norm_num
theorem high : ∃ c : ℝ, Ideal.ofBits .f32 0x7F7F0000#32 = (c : EReal) ∧ c < (2 : ℝ) ^ (128 : ℤ) := by
  refine ⟨_, by simp [Ideal.ofBits, Ideal.ieee]; rfl, by norm_num⟩
theorem two : Ideal.ofBits .f32 0x40000000#32 = ((2 : ℝ) : EReal) := by
  have := pow2_eq 128 (by omega) (by omega)
  unfold pow2 at this
  refine Eq.trans ?_ (this.trans ?_)
  · rfl
  · norm_num

/-- ⌊log₂ r⌋. -/
def log2 (r : ℝ) : ℤ := ⌊Real.log r / Real.log 2⌋
theorem log2_le {r : ℝ} (h : 0 < r) : (2 : ℝ) ^ log2 r ≤ r := by
  have h2 : 0 < Real.log 2 := Real.log_pos (by norm_num)
  rw [← Real.log_le_log_iff (by positivity) h, Real.log_zpow, ← le_div_iff₀ h2]
  exact Int.floor_le _
theorem lt_log2 {r : ℝ} (h : 0 < r) : r < (2 : ℝ) ^ (log2 r + 1) := by
  have h2 : 0 < Real.log 2 := Real.log_pos (by norm_num)
  rw [← Real.log_lt_log_iff h (by positivity), Real.log_zpow, ← div_lt_iff₀ h2]
  push_cast
  exact Int.lt_floor_add_one _

theorem refE_zero : refE (F := Ideal) (0 : EReal) = (((0 : ℤ) : ℝ) : EReal) := by
  unfold refE
  pointwise
  simp
theorem refE_real (r c : ℝ) (ha : Ideal.ofBits .f32 0x3B124925#32 = c) (hc : 0 < c) (hr : 0 < r) :
    refE (F := Ideal) (r : EReal) = (((log2 (r * c) + 1 : ℤ) : ℝ) : EReal) := by
  have h : refE (F := Ideal) (r : EReal) = (if (r : EReal) = 0 then 0 else
      Ideal.liftRound Int.floor (Ideal.div (Ideal.log ((r : EReal) * Ideal.ofBits FTy.f32 0x3B124925#32)) (Ideal.log (Ideal.ofBits FTy.f32 0x40000000#32))) + 1 : EReal) := by
    unfold refE
    pointwise
  have hne : (r : EReal) ≠ 0 := by exact_mod_cast hr.ne'
  have hp : 0 < r * c := mul_pos hr hc
  rw [h, if_neg hne, ha, two, ← EReal.coe_mul]
  have l1 : Ideal.log ((r * c : ℝ) : EReal) = (Real.log (r * c) : EReal) := by
    show (if r * c ≤ 0 then ⊥ else (Real.log (r * c) : EReal)) = _
    rw [if_neg (not_le.2 hp)]
  have l2 : Ideal.log ((2 : ℝ) : EReal) = (Real.log 2 : EReal) := by
    show (if (2 : ℝ) ≤ 0 then ⊥ else (Real.log 2 : EReal)) = _
    rw [if_neg (by norm_num)]
  have l3 : Ideal.div (Real.log (r * c) : EReal) (Real.log 2 : EReal) = ((Real.log (r * c) / Real.log 2 : ℝ) : EReal) := by
    unfold Ideal.div
    have : (Real.log 2 : EReal) ≠ 0 := by exact_mod_cast (Real.log_pos (by norm_num)).ne'
    rw [if_neg this, ← EReal.coe_inv, ← EReal.coe_mul]; rfl
  rw [l1, l2, l3]
  show ((((⌊Real.log (r * c) / Real.log 2⌋ : ℤ) : ℝ) : EReal) + 1) = _
  unfold log2; push_cast; rfl
theorem refXs_of (a : EReal) (e : ℤ) (h : refE (F := Ideal) a = (((e : ℤ) : ℝ) : EReal)) : refXs (F := Ideal) a = (((2 : ℝ) ^ e : ℝ) : EReal) ∧ refInv (F := Ideal) a = (((2 : ℝ) ^ (-e) : ℝ) : EReal) := by
  have h1 : refXs (F := Ideal) a = Ideal.pow (Ideal.ofBits FTy.f32 0x40000000#32) (refE (F := Ideal) a) := rfl
  have h2 : refInv (F := Ideal) a = Ideal.pow (Ideal.ofBits FTy.f32 0x40000000#32) (-(refE (F := Ideal) a)) := rfl
  rw [h1, h2, h, two, ← EReal.coe_neg]
  refine ⟨congrArg Real.toEReal (Real.rpow_intCast 2 e), congrArg Real.toEReal ?_⟩
  rw [← Int.cast_neg]
  exact Real.rpow_intCast 2 (-e)

/-- Of a token the precondition covers, the kernel's two powers of two are the reference's. -/
theorem exponent_eq (a : EReal) (h : Ok a) (h0 : 0 ≤ a) : kerXs a = refXs (F := Ideal) a ∧ kerInv a = refInv (F := Ideal) a := by
  obtain ⟨c, hc, hc0, hc1⟩ := c448
  rcases h with rfl | ⟨hl, hh⟩
  · obtain ⟨e1, e2⟩ := refXs_of 0 0 refE_zero
    have hz : kerE 0 = 0#32 := by
      unfold kerE; rw [zero_mul, biased_zero]; rfl
    have hp := pow2_eq 127 (by omega) (by omega)
    rw [e1, e2]; unfold kerXs kerInv; rw [hz]
    refine ⟨hp.trans ?_, hp.trans ?_⟩ <;> norm_num
  · obtain ⟨H, hH, hH'⟩ := high
    rw [hH] at hh
    induction a with
    | bot => exact absurd h0 (by simp)
    | top => exact absurd hh (by simp)
    | coe r =>
      rw [hc, low, ← EReal.coe_mul, EReal.coe_le_coe_iff] at hl
      rw [EReal.coe_le_coe_iff] at hh
      have hpc : 0 < r * c := lt_of_lt_of_le (by positivity) hl
      have hr : 0 < r := by
        by_contra hn
        exact absurd hpc (not_lt.2 (mul_nonpos_of_nonpos_of_nonneg (not_lt.1 hn) hc0.le))
      have b1 := log2_le hpc
      have b2 := lt_log2 hpc
      have lo : -126 ≤ log2 (r * c) := by
        by_contra hn
        have := zpow_le_zpow_right₀ (by norm_num : (1 : ℝ) ≤ 2) (show log2 (r * c) + 1 ≤ -126 by omega)
        exact absurd (lt_of_lt_of_le b2 this) (not_lt.2 hl)
      have hi : log2 (r * c) ≤ 125 := by
        by_contra hn
        have h1 := zpow_le_zpow_right₀ (by norm_num : (1 : ℝ) ≤ 2) (show 126 ≤ log2 (r * c) by omega)
        have h2 : r * c < (2 : ℝ) ^ (128 : ℤ) * (2 : ℝ) ^ (-2 : ℤ) := mul_lt_mul'' (lt_of_le_of_lt hh hH') hc1 hr.le hc0.le
        rw [← zpow_add₀ (by norm_num)] at h2
        exact absurd (h1.trans b1) (not_le.2 h2)
      obtain ⟨k, hk⟩ : ∃ k : ℕ, log2 (r * c) = (k : ℤ) - 127 := ⟨(log2 (r * c) + 127).toNat, by omega⟩
      rw [hk] at b1 b2
      obtain ⟨e1, e2⟩ := refXs_of r _ (refE_real r c hc hc0 hr)
      rw [e1, e2, hk]
      have hb := biased_real (r * c) k (by omega) (by omega) b1 (by convert b2 using 2; ring)
      obtain ⟨w1, w2, w3⟩ := words ⟨k, by omega⟩ (by show 1 ≤ k; omega)
      have hE : kerE (r : EReal) = BitVec.ofNat 32 k - 126#32 := by
        unfold kerE; rw [hc, ← EReal.coe_mul, hb]; exact w1
      unfold kerXs kerInv
      rw [hE]
      refine ⟨(congrArg pow2 w2).trans ((pow2_eq (k + 1) (by omega) (by omega)).trans ?_), (congrArg pow2 w3).trans ((pow2_eq (253 - k) (by omega) (by omega)).trans ?_)⟩
      · congr 2; push_cast; ring
      · congr 2; push_cast [show k ≤ 253 by omega]; ring
end Cert.Value
end
-- ==== Proof.ProjI.Entries.lean ====
module

public import proofs.«01_k».proof.Proof.ProjI.Rows
public import proofs.«01_k».proof.Proof.Value.Exponent
public import Idealize.ShloMosaic.Lib.Pointwise

/-! The entries of what one grid point of the projection kernel computes, over the extended reals. -/

@[expose] public section

set_option maxRecDepth 16384
set_option maxHeartbeats 4000000

noncomputable section

namespace Cert.ProjIdeal.Hand

open Cert.ProjIdeal.Gen Cert.Value
open Idealize.ShloMosaic Idealize.ShloMosaic.TcCoe Idealize.ShloMosaic.Tactic

/-- The exponent of a token. -/
theorem pay19_any (v0 : Vec Ideal S1x64x3840 .bf16) (r : Fin 64) (P : BitVec 32 → Prop) (hP : P (kerE (⨆ d : Fin 3840, mag (v0 (ix3 (0 : Fin 1) r d))))) :
    P (k0_pay19 v0 (ix2 r (0 : Fin 1))) := by
  unfold k0_pay19
  pointwise [k0_pay18]
  refine Eq.mp (congrArg P (Eq.symm ?_)) hP
  refine congrArg kerE (?_ : Finset.fold FloatOps.maximumf (Ideal.ofBits FTy.bf16 65408#16) (fun x : Fin 3840 => FloatOps.absf (F := Ideal) (φ := .bf16) (v0 (ix3 (0 : Fin 1) r x))) Finset.univ = _)
  rw [ofBits_bot16]
  exact Value.fold_max (φ := .bf16) (fun x : Fin 3840 => FloatOps.absf (F := Ideal) (φ := .bf16) (v0 (ix3 (0 : Fin 1) r x)))
theorem pay19_eq (v0 : Vec Ideal S1x64x3840 .bf16) (r : Fin 64) :
    k0_pay19 v0 (ix2 r (0 : Fin 1)) = kerE (⨆ d : Fin 3840, mag (v0 (ix3 (0 : Fin 1) r d))) :=
  pay19_any v0 r (fun v => v = kerE (⨆ d : Fin 3840, mag (v0 (ix3 (0 : Fin 1) r d)))) rfl

/-- The codes of 64 tokens. -/
theorem pay21_any (v0 : Vec Ideal S1x64x3840 .bf16) (r : Fin 64) (d : Fin 3840) (P : EReal → Prop)
    (hP : P (clip (v0 (ix3 (0 : Fin 1) r d) * kerInv (⨆ d : Fin 3840, mag (v0 (ix3 (0 : Fin 1) r d)))))) : P (k0_pay21 (k0_pay20 v0) (ix3 (0 : Fin 1) r d)) := by
  unfold k0_pay21 k0_pay20
  pointwise [k0_pay18]
  rw [pay19_eq]
  exact hP
theorem pay22_any (v0 : Vec Ideal S1x64x3840 .bf16) (r : Fin 64) (l : Fin 128) (P : EReal → Prop)
    (hP : P (kerXs (⨆ d : Fin 3840, mag (v0 (ix3 (0 : Fin 1) r d))))) : P (k0_pay22 (F := Ideal) (k0_pay19 v0) (ix2 r l)) := by
  unfold k0_pay22
  pointwise
  rw [pay19_eq]
  exact hP

/-- The greatest magnitude of token `r` of the block. -/
def bmax (x1 : Vec Ideal S1x512x3840 .bf16) (r : Fin 512) : EReal := ⨆ d : Fin 3840, mag (x1 (ix3 (0 : Fin 1) r d))
/-- The block's codes. -/
theorem codesB_at (x1 : Vec Ideal S1x512x3840 .bf16) (r : Fin 512) (d : Fin 3840) :
    codesB x1 (ix3 (0 : Fin 1) r d) = clip (x1 (ix3 (0 : Fin 1) r d) * kerInv (bmax x1 r)) := by
  refine (View.canon_apply_of_pieces (fun y => clip (x1 y * kerInv (bmax x1 (y 1)))) (codePieces x1) ?_ _ (cover_codes x1 _))
  intro p hp x
  obtain ⟨k, hk, hp⟩ := (mem_tower _ _ _ _).1 hp
  rw [List.mem_singleton] at hp
  subst hp
  obtain ⟨a, r, d, rfl⟩ : ∃ (a : Fin 1) (r : Fin 64) (d : Fin 3840), x = ix3 a r d := ⟨x 0, x 1, x 2, (ix3_eta x).symm⟩
  obtain rfl : a = 0 := Subsingleton.elim _ _
  have he : ∀ d : Fin 3840, (Rect.unit (s := S1x512x3840) ![0, 64 * k, 0] S1x64x3840.size (inbX hk)).emb (ix3 (0 : Fin 1) r d) = ix3 (0 : Fin 1) (⟨64 * k + r.val, by omega⟩ : Fin 512) d := by
    intro d
    funext a; refine Fin.ext ?_; fin_cases a <;> simp [Rect.emb, LoadRect.idx, Rect.unit, ix3]
  refine pay21_any (xRows x1 k hk) r d (fun v => v = _) ?_
  rw [he d]
  show clip (x1 ((Rect.unit (s := S1x512x3840) ![0, 64 * k, 0] S1x64x3840.size (inbX hk)).emb (ix3 (0 : Fin 1) r d)) * kerInv (⨆ d : Fin 3840, mag (x1 ((Rect.unit (s := S1x512x3840) ![0, 64 * k, 0] S1x64x3840.size (inbX hk)).emb (ix3 (0 : Fin 1) r d))))) = _
  simp only [he]
  rfl
/-- The block's scales. -/
theorem xsbB_at (x1 : Vec Ideal S1x512x3840 .bf16) (r : Fin 512) (l : Fin 128) :
    xsbB x1 (ix2 r l) = kerXs (bmax x1 r) := by
  refine (View.canon_apply_of_pieces (fun y => kerXs (bmax x1 (y 0))) (xsbPieces x1) ?_ _ (cover_xsb x1 _))
  intro p hp x
  obtain ⟨k, hk, hp⟩ := (mem_tower _ _ _ _).1 hp
  rw [List.mem_singleton] at hp
  subst hp
  obtain ⟨r, l, rfl⟩ : ∃ (r : Fin 64) (l : Fin 128), x = ix2 r l := ⟨x 0, x 1, (ix2_eta x).symm⟩
  have he : ∀ d : Fin 3840, (Rect.unit (s := S1x512x3840) ![0, 64 * k, 0] S1x64x3840.size (inbX hk)).emb (ix3 (0 : Fin 1) r d) = ix3 (0 : Fin 1) (⟨64 * k + r.val, by omega⟩ : Fin 512) d := by
    intro d
    funext a; refine Fin.ext ?_; fin_cases a <;> simp [Rect.emb, LoadRect.idx, Rect.unit, ix3]
  have he' : (Rect.unit (s := S512x128) ![64 * k, 0] S64x128.size (inbS hk)).emb (ix2 r l) = ix2 (⟨64 * k + r.val, by omega⟩ : Fin 512) l := by
    funext a; refine Fin.ext ?_; fin_cases a <;> simp [Rect.emb, LoadRect.idx, Rect.unit, ix2]
  refine pay22_any (xRows x1 k hk) r l (fun v => v = _) ?_
  rw [he']
  show kerXs (⨆ d : Fin 3840, mag (x1 ((Rect.unit (s := S1x512x3840) ![0, 64 * k, 0] S1x64x3840.size (inbX hk)).emb (ix3 (0 : Fin 1) r d)))) = _
  simp only [he]
  rfl
/-- One head of one token. -/
def headE (x1 : Vec Ideal S1x512x3840 .bf16) (x2 : Vec Ideal S3840x5376 .fp8e4m3) (x3 x4 : Vec Ideal S1x5376 .f32) (l : Fin 512) (e : Fin 5376) : EReal :=
  (∑ d : Fin 3840, clip (x1 (ix3 (0 : Fin 1) l d) * kerInv (bmax x1 l)) * (x2 (ix2 d e) : EReal)) * (kerXs (bmax x1 l) * (x3 (ix2 (0 : Fin 1) e) : EReal)) + (x4 (ix2 (0 : Fin 1) e) : EReal)

theorem headT_any (codes : Vec Ideal S1x512x3840 .fp8e4m3) (xsb : Vec Ideal S512x128 .f32) (x2 : Vec Ideal S3840x5376 .fp8e4m3)
    (x3 x4 : Vec Ideal S1x5376 .f32) (n : Nat) (h : n < 42) (j : Fin 128) (l : Fin 512) (P : EReal → Prop)
    (hP : P ((∑ d : Fin 3840, (codes (ix3 (0 : Fin 1) l d) : EReal) * (x2 (ix2 d (⟨256 * (n / 2) + (128 * (n % 2) + j.val), by omega⟩ : Fin 5376)) : EReal)) * ((xsb (ix2 l j) : EReal) * (x3 (ix2 (0 : Fin 1) (⟨128 * n + j.val, by omega⟩ : Fin 5376)) : EReal)) + (x4 (ix2 (0 : Fin 1) (⟨128 * n + j.val, by omega⟩ : Fin 5376)) : EReal))) :
    P (headT codes xsb x2 x3 x4 n h (ix2 j l)) := by
  unfold headT
  pointwise [k0_pay70, k0_pay69]
  exact hP
theorem rotLo_any (cs sn : FVec Ideal S64x512 .f32) (T : FVec Ideal S128x512 .bf16) (j : Fin 64) (l : Fin 512) (P : EReal → Prop)
    (hP : P ((T (ix2 (⟨j.val, by omega⟩ : Fin 128) l) : EReal) * (cs (ix2 j l) : EReal) - (T (ix2 (⟨64 + j.val, by omega⟩ : Fin 128) l) : EReal) * (sn (ix2 j l) : EReal))) : P (rotLo cs sn T (ix2 j l)) := by
  unfold rotLo k0_pay75 loHalf hiHalf
  pointwise [k0_pay74]
  exact hP
theorem rotHi_any (cs sn : FVec Ideal S64x512 .f32) (T : FVec Ideal S128x512 .bf16) (j : Fin 64) (l : Fin 512) (P : EReal → Prop)
    (hP : P ((T (ix2 (⟨64 + j.val, by omega⟩ : Fin 128) l) : EReal) * (cs (ix2 j l) : EReal) + (T (ix2 (⟨j.val, by omega⟩ : Fin 128) l) : EReal) * (sn (ix2 j l) : EReal))) : P (rotHi cs sn T (ix2 j l)) := by
  unfold rotHi k0_pay76 loHalf hiHalf
  pointwise [k0_pay74]
  exact hP
/-- The angle of coordinate `j` at token `l` of the block. -/
def angleE (i : grid0.Coords) (pos : BitVec 32) (x0 : Vec Ideal S64x128 .f32) (j : Fin 64) (l : Fin 512) : EReal :=
  FloatOps.sitofp (F := Ideal) .f32 (IntOp.addi (Scalar.addi pos (Scalar.muli (BitVec.ofNat 32 (i 0).val) 512#32)) (BitVec.ofNat 32 l.val)) * (x0 (ix2 j (0 : Fin 128)) : EReal)
theorem cosB_any (i : grid0.Coords) (pos : BitVec 32) (x0 : Vec Ideal S64x128 .f32) (j : Fin 64) (l : Fin 512) (P : EReal → Prop)
    (hP : P (Ideal.cos (angleE i pos x0 j l))) : P (cosB i pos x0 (ix2 j l)) := by
  unfold cosB k0_pay67
  pointwise [k0_pay66]
  exact hP
theorem sinB_any (i : grid0.Coords) (pos : BitVec 32) (x0 : Vec Ideal S64x128 .f32) (j : Fin 64) (l : Fin 512) (P : EReal → Prop)
    (hP : P (Ideal.sin (angleE i pos x0 j l))) : P (sinB i pos x0 (ix2 j l)) := by
  unfold sinB k0_pay68
  pointwise [k0_pay66]
  exact hP
theorem rowPlain_any (T : FVec Ideal S128x512 .bf16) (b : Fin 8) (l : Fin 512) (P : EReal → Prop)
    (hP : P (⨆ j : Fin 128, mag (T (ix2 j l)))) : P (rowPlain T (ix3 (0 : Fin 1) b l)) := by
  unfold rowPlain k0_pay1
  pointwise
  refine Eq.mp (congrArg P (Eq.symm ?_)) hP
  rw [ofBits_bot16]
  exact Value.fold_max (φ := .bf16) (fun x : Fin 128 => FloatOps.absf (F := Ideal) (φ := .bf16) (T (ix2 x l)))
theorem rowRot_any (cs sn : FVec Ideal S64x512 .f32) (T : FVec Ideal S128x512 .bf16) (b : Fin 8) (l : Fin 512) (P : EReal → Prop)
    (hP : P (⨆ j : Fin 64, max (mag (rotLo cs sn T (ix2 j l))) (mag (rotHi cs sn T (ix2 j l))))) : P (rowRot cs sn T (ix3 (0 : Fin 1) b l)) := by
  unfold rowRot k0_pay79
  pointwise
  refine Eq.mp (congrArg P (Eq.symm ?_)) hP
  rw [ofBits_bot16]
  exact Value.fold_max (φ := .bf16) (fun x : Fin 64 => FloatOps.maximumf (F := Ideal) (φ := .bf16) (FloatOps.absf (F := Ideal) (φ := .bf16) (rotLo cs sn T (ix2 x l))) (FloatOps.absf (F := Ideal) (φ := .bf16) (rotHi cs sn T (ix2 x l))))
/-- The scales stored along a row: entry `l` is scale `l`. -/
theorem pay57_any (v : Vec Ideal S128x128 .f32) (b : Fin 8) (l : Fin 128) (P : EReal → Prop) (h0 : (0 : EReal) ≤ v (ix2 l l))
    (hP : P (v (ix2 l l))) : P (k0_pay57 v (ix2 b l)) := by
  have hs : ∀ r : Fin 128, Scalar.select (IntOp.cmpi CmpIPredicate.eq (BitVec.ofNat 32 r.val) (BitVec.ofNat 32 l.val)) (v (ix2 r l) : EReal) 0
      = if r = l then (v (ix2 r l) : EReal) else 0 := by
    intro r
    by_cases e : r = l
    · rw [if_pos e, (cmpi_eq_ofNat (by omega) (by omega)).2 (congrArg Fin.val e)]; rfl
    · rw [if_neg e]
      have h1 : IntOp.cmpi CmpIPredicate.eq (BitVec.ofNat 32 r.val) (BitVec.ofNat 32 l.val) ≠ 1 := fun h =>
        e (Fin.ext ((cmpi_eq_ofNat (by omega) (by omega)).1 h))
      exact if_neg h1
  unfold k0_pay57
  pointwise
  refine Eq.mp (congrArg P (Eq.symm ?_)) hP
  rw [ofBits_bot32]
  refine (Value.fold_max (φ := .f32) (fun x : Fin 128 => Scalar.select (IntOp.cmpi CmpIPredicate.eq (BitVec.ofNat 32 x.val) (BitVec.ofNat 32 l.val)) (v (ix2 x l) : EReal) 0)).trans ?_
  refine (congrArg iSup (funext hs)).trans ?_
  refine le_antisymm (iSup_le fun r => ?_) ?_
  · by_cases e : r = l
    · rw [if_pos e, e]
    · rw [if_neg e]; exact h0
  · refine le_trans (le_of_eq ?_) (le_iSup _ l)
    exact (if_pos rfl).symm
end Cert.ProjIdeal.Hand
end
-- ==== Proof.ProjI.Heads.lean ====
module

public import proofs.«01_k».proof.Proof.ProjI.Entries

/-! The heads of one grid point, entry by entry: the plain and rotated projections, and the largest magnitudes of their rows. -/

@[expose] public section

set_option maxRecDepth 16384
set_option maxHeartbeats 4000000

noncomputable section

namespace Cert.ProjIdeal.Hand

open Cert.ProjIdeal.Gen Cert.Value
open Idealize.ShloMosaic Idealize.ShloMosaic.TcCoe Idealize.ShloMosaic.Tactic

/-- Coordinate `j` of head `n` of the block's token `l`. -/
def hE (x1 : Vec Ideal S1x512x3840 .bf16) (x2 : Vec Ideal S3840x5376 .fp8e4m3) (x3 x4 : Vec Ideal S1x5376 .f32) (n : Fin 42) (l : Fin 512) (j : Fin 128) : EReal :=
  headE x1 x2 x3 x4 l ⟨n.val * 128 + j.val, by omega⟩

/-- Coordinate `j` of the rotated head. -/
def rE (i : grid0.Coords) (pos : BitVec 32) (x0 : Vec Ideal S64x128 .f32) (x1 : Vec Ideal S1x512x3840 .bf16) (x2 : Vec Ideal S3840x5376 .fp8e4m3)
    (x3 x4 : Vec Ideal S1x5376 .f32) (n : Fin 42) (l : Fin 512) (j : Fin 128) : EReal :=
  if h : j.val < 64 then
    hE x1 x2 x3 x4 n l j * Ideal.cos (angleE i pos x0 ⟨j.val, h⟩ l)
      - hE x1 x2 x3 x4 n l ⟨64 + j.val, by omega⟩ * Ideal.sin (angleE i pos x0 ⟨j.val, h⟩ l)
  else
    hE x1 x2 x3 x4 n l j * Ideal.cos (angleE i pos x0 ⟨j.val - 64, by omega⟩ l)
      + hE x1 x2 x3 x4 n l ⟨j.val - 64, by omega⟩ * Ideal.sin (angleE i pos x0 ⟨j.val - 64, by omega⟩ l)

/-- A row times a column; and such a product scaled, with a bias. -/
def dotE (a b : Fin 3840 → EReal) : EReal := ∑ d, a d * b d
def linE (p c x y : EReal) : EReal := p * (c * x) + y

theorem headT_eq (codes : Vec Ideal S1x512x3840 .fp8e4m3) (xsb : Vec Ideal S512x128 .f32) (x2 : Vec Ideal S3840x5376 .fp8e4m3)
    (x3 x4 : Vec Ideal S1x5376 .f32) (n : Nat) (h : n < 42) (j : Fin 128) (l : Fin 512) :
    headT codes xsb x2 x3 x4 n h (ix2 j l)
      = linE (dotE (fun d => codes (ix3 (0 : Fin 1) l d)) (fun d => x2 (ix2 d (⟨256 * (n / 2) + (128 * (n % 2) + j.val), by omega⟩ : Fin 5376))))
          (xsb (ix2 l j)) (x3 (ix2 (0 : Fin 1) (⟨128 * n + j.val, by omega⟩ : Fin 5376))) (x4 (ix2 (0 : Fin 1) (⟨128 * n + j.val, by omega⟩ : Fin 5376))) :=
  headT_any codes xsb x2 x3 x4 n h j l
    (fun v => v = linE (dotE (fun d => codes (ix3 (0 : Fin 1) l d)) (fun d => x2 (ix2 d (⟨256 * (n / 2) + (128 * (n % 2) + j.val), by omega⟩ : Fin 5376))))
          (xsb (ix2 l j)) (x3 (ix2 (0 : Fin 1) (⟨128 * n + j.val, by omega⟩ : Fin 5376))) (x4 (ix2 (0 : Fin 1) (⟨128 * n + j.val, by omega⟩ : Fin 5376)))) rfl
/-- A head's entry. -/
theorem headB_at (x1 : Vec Ideal S1x512x3840 .bf16) (x2 : Vec Ideal S3840x5376 .fp8e4m3) (x3 x4 : Vec Ideal S1x5376 .f32)
    (n : Nat) (h : n < 42) (j : Fin 128) (l : Fin 512) : headB x1 x2 x3 x4 n h (ix2 j l) = hE x1 x2 x3 x4 ⟨n, h⟩ l j := by
  have e1 : (⟨256 * (n / 2) + (128 * (n % 2) + j.val), by omega⟩ : Fin 5376) = ⟨n * 128 + j.val, by omega⟩ := Fin.ext (by show 256 * (n / 2) + (128 * (n % 2) + j.val) = n * 128 + j.val; omega)
  have e2 : (⟨128 * n + j.val, by omega⟩ : Fin 5376) = ⟨n * 128 + j.val, by omega⟩ := Fin.ext (by show 128 * n + j.val = n * 128 + j.val; omega)
  have e3 : (fun d : Fin 3840 => codesB x1 (ix3 (0 : Fin 1) l d)) = fun d => clip (x1 (ix3 (0 : Fin 1) l d) * kerInv (bmax x1 l)) :=
    funext fun d => codesB_at x1 l d
  unfold headB
  rw [headT_eq, e1, e2, e3, xsbB_at]
  unfold hE headE linE dotE
  rfl
section
variable (i : grid0.Coords) (pos : BitVec 32) (x0 : Vec Ideal S64x128 .f32) (x1 : Vec Ideal S1x512x3840 .bf16) (x2 : Vec Ideal S3840x5376 .fp8e4m3)
    (x3 x4 : Vec Ideal S1x5376 .f32)

theorem cosB_at (j : Fin 64) (l : Fin 512) : cosB i pos x0 (ix2 j l) = Ideal.cos (angleE i pos x0 j l) :=
  cosB_any i pos x0 j l (fun v => v = Ideal.cos (angleE i pos x0 j l)) rfl
theorem sinB_at (j : Fin 64) (l : Fin 512) : sinB i pos x0 (ix2 j l) = Ideal.sin (angleE i pos x0 j l) :=
  sinB_any i pos x0 j l (fun v => v = Ideal.sin (angleE i pos x0 j l)) rfl
theorem rE_lo (n : Fin 42) (l : Fin 512) (j : Fin 64) : rE i pos x0 x1 x2 x3 x4 n l ⟨j.val, by omega⟩
    = hE x1 x2 x3 x4 n l ⟨j.val, by omega⟩ * Ideal.cos (angleE i pos x0 j l)
      - hE x1 x2 x3 x4 n l ⟨64 + j.val, by omega⟩ * Ideal.sin (angleE i pos x0 j l) := by
  unfold rE; rw [dif_pos j.isLt]
theorem rE_hi (n : Fin 42) (l : Fin 512) (j : Fin 64) : rE i pos x0 x1 x2 x3 x4 n l ⟨64 + j.val, by omega⟩
    = hE x1 x2 x3 x4 n l ⟨64 + j.val, by omega⟩ * Ideal.cos (angleE i pos x0 j l)
      + hE x1 x2 x3 x4 n l ⟨j.val, by omega⟩ * Ideal.sin (angleE i pos x0 j l) := by
  unfold rE; rw [dif_neg (show ¬ 64 + j.val < 64 by omega)]
  have ej : (⟨64 + j.val - 64, by omega⟩ : Fin 64) = j := Fin.ext (by show 64 + j.val - 64 = j.val; omega)
  have ek : (⟨64 + j.val - 64, by omega⟩ : Fin 128) = ⟨j.val, by omega⟩ := Fin.ext (by show 64 + j.val - 64 = j.val; omega)
  simp only [ej, ek]
theorem rotLo_eq (cs sn : FVec Ideal S64x512 .f32) (T : FVec Ideal S128x512 .bf16) (j : Fin 64) (l : Fin 512) :
    rotLo cs sn T (ix2 j l) = ((T (ix2 (⟨j.val, by omega⟩ : Fin 128) l) : EReal) * (cs (ix2 j l) : EReal) - (T (ix2 (⟨64 + j.val, by omega⟩ : Fin 128) l) : EReal) * (sn (ix2 j l) : EReal) : EReal) :=
  rotLo_any cs sn T j l (fun v => v = ((T (ix2 (⟨j.val, by omega⟩ : Fin 128) l) : EReal) * (cs (ix2 j l) : EReal) - (T (ix2 (⟨64 + j.val, by omega⟩ : Fin 128) l) : EReal) * (sn (ix2 j l) : EReal) : EReal)) rfl
theorem rotHi_eq (cs sn : FVec Ideal S64x512 .f32) (T : FVec Ideal S128x512 .bf16) (j : Fin 64) (l : Fin 512) :
    rotHi cs sn T (ix2 j l) = ((T (ix2 (⟨64 + j.val, by omega⟩ : Fin 128) l) : EReal) * (cs (ix2 j l) : EReal) + (T (ix2 (⟨j.val, by omega⟩ : Fin 128) l) : EReal) * (sn (ix2 j l) : EReal) : EReal) :=
  rotHi_any cs sn T j l (fun v => v = ((T (ix2 (⟨64 + j.val, by omega⟩ : Fin 128) l) : EReal) * (cs (ix2 j l) : EReal) + (T (ix2 (⟨j.val, by omega⟩ : Fin 128) l) : EReal) * (sn (ix2 j l) : EReal) : EReal)) rfl
/-- The rotated halves of a head. -/
theorem rotLo_at (n : Nat) (h : n < 42) (j : Fin 64) (l : Fin 512) :
    rotLo (cosB i pos x0) (sinB i pos x0) (headB x1 x2 x3 x4 n h) (ix2 j l) = rE i pos x0 x1 x2 x3 x4 ⟨n, h⟩ l ⟨j.val, by omega⟩ := by
  rw [rotLo_eq, headB_at, headB_at, cosB_at, sinB_at, rE_lo]
theorem rotHi_at (n : Nat) (h : n < 42) (j : Fin 64) (l : Fin 512) :
    rotHi (cosB i pos x0) (sinB i pos x0) (headB x1 x2 x3 x4 n h) (ix2 j l) = rE i pos x0 x1 x2 x3 x4 ⟨n, h⟩ l ⟨64 + j.val, by omega⟩ := by
  rw [rotHi_eq, headB_at, headB_at, cosB_at, sinB_at, rE_hi]
theorem castQ_any (v : FVec Ideal S64x512 .bf16) (j : Fin 64) (l : Fin 512) (P : EReal → Prop) (hP : P (v (ix2 j l))) :
    P (shapeCast S1x1x64x512 v shapeCasts_S64x512_S1x1x64x512 (ix4 (0 : Fin 1) (0 : Fin 1) j l)) := by
  pointwise
  exact hP
theorem castV_any (v : FVec Ideal S128x512 .bf16) (j : Fin 128) (l : Fin 512) (P : EReal → Prop) (hP : P (v (ix2 j l))) :
    P (shapeCast S1x1x128x512 v shapeCasts_S128x512_S1x1x128x512 (ix4 (0 : Fin 1) (0 : Fin 1) j l)) := by
  pointwise
  exact hP
theorem castK_any (lo hi : FVec Ideal S64x512 .bf16) (l : Fin 512) (j : Fin 128) (P : EReal → Prop)
    (hP : P (if h : j.val < 64 then lo (ix2 ⟨j.val, h⟩ l) else hi (ix2 (⟨j.val - 64, by omega⟩ : Fin 64) l))) :
    P (shapeCast S1x1x512x128 (transpose S512x128 [1, 0]
          (concatenate S128x512 0 [⟨S64x512, lo⟩, ⟨S64x512, hi⟩] concatenates_S64x512_S64x512_S128x512_d0)
          transposes_S128x512_p1_0_S512x128) shapeCasts_S512x128_S1x1x512x128 (ix4 (0 : Fin 1) (0 : Fin 1) l j)) := by
  pointwise
  exact hP
theorem iSup_two (f : Fin 128 → EReal) : (⨆ j : Fin 64, max (f ⟨j.val, by omega⟩) (f ⟨64 + j.val, by omega⟩)) = ⨆ j, f j := by
  refine le_antisymm (iSup_le fun j => max_le (le_iSup f _) (le_iSup f _)) (iSup_le fun j => ?_)
  by_cases h : j.val < 64
  · exact le_trans (le_max_left _ _) (le_iSup (fun j : Fin 64 => max (f ⟨j.val, by omega⟩) (f ⟨64 + j.val, by omega⟩)) ⟨j.val, h⟩)
  · refine le_trans ?_ (le_iSup (fun j : Fin 64 => max (f ⟨j.val, by omega⟩) (f ⟨64 + j.val, by omega⟩)) ⟨j.val - 64, by omega⟩)
    refine le_trans (le_of_eq (congrArg f (Fin.ext ?_))) (le_max_right _ _)
    show j.val = 64 + (j.val - 64)
    omega

theorem rowRot_eq (cs sn : FVec Ideal S64x512 .f32) (T : FVec Ideal S128x512 .bf16) (b : Fin 8) (l : Fin 512) :
    rowRot cs sn T (ix3 (0 : Fin 1) b l) = ⨆ j : Fin 64, max (mag (rotLo cs sn T (ix2 j l))) (mag (rotHi cs sn T (ix2 j l))) :=
  rowRot_any cs sn T b l (fun v => v = ⨆ j : Fin 64, max (mag (rotLo cs sn T (ix2 j l))) (mag (rotHi cs sn T (ix2 j l)))) rfl
theorem rowPlain_eq (T : FVec Ideal S128x512 .bf16) (b : Fin 8) (l : Fin 512) :
    rowPlain T (ix3 (0 : Fin 1) b l) = ⨆ j : Fin 128, mag (T (ix2 j l)) :=
  rowPlain_any T b l (fun v => v = ⨆ j : Fin 128, mag (T (ix2 j l))) rfl
/-- The largest magnitudes of the rows. -/
theorem rowRot_at (n : Nat) (h : n < 42) (b : Fin 8) (l : Fin 512) :
    rowRot (cosB i pos x0) (sinB i pos x0) (headB x1 x2 x3 x4 n h) (ix3 (0 : Fin 1) b l) = ⨆ j, mag (rE i pos x0 x1 x2 x3 x4 ⟨n, h⟩ l j) := by
  rw [rowRot_eq, ← iSup_two]
  refine iSup_congr fun j => ?_
  rw [rotLo_at, rotHi_at]
theorem rowPlain_at (n : Nat) (h : n < 42) (b : Fin 8) (l : Fin 512) :
    rowPlain (headB x1 x2 x3 x4 n h) (ix3 (0 : Fin 1) b l) = ⨆ j, mag (hE x1 x2 x3 x4 ⟨n, h⟩ l j) := by
  rw [rowPlain_eq]
  refine iSup_congr fun j => ?_
  rw [headB_at]
theorem pay57_eq (v : Vec Ideal S128x128 .f32) (b : Fin 8) (l : Fin 128) (a : EReal) (h0 : 0 ≤ a) (ha : v (ix2 l l) = a) : k0_pay57 v (ix2 b l) = a := by
  subst ha
  exact pay57_any v b l (fun u => u = v (ix2 l l)) h0 rfl
/-- The stored scales of one block of 128 tokens. -/
theorem xsRow_at (n : Nat) (h : n < 4) (b : Fin 8) (l : Fin 128) (h0 : 0 ≤ kerXs (bmax x1 ⟨128 * n + l.val, by omega⟩)) :
    xsRow (xsbB x1) n h (ix2 b l) = kerXs (bmax x1 ⟨128 * n + l.val, by omega⟩) := by
  unfold xsRow
  refine pay57_eq _ b l _ h0 ?_
  rw [← xsbB_at x1 _ l]
  refine congrArg (xsbB x1) ?_
  funext a; refine Fin.ext ?_; fin_cases a <;> simp [Rect.emb, LoadRect.idx, Rect.unit, ix2]
end
end Cert.ProjIdeal.Hand
end
-- ==== Proof.ProjI.Step.lean ====
module

public import proofs.«01_k».proof.Proof.ProjI.Rows

/-! One grid point of the projection kernel, its buffers named by what they hold before and after. -/

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rotated query heads, key heads, and the value heads of a point's 512 tokens. -/
def qB (i : grid0.Coords) (pos : Elt F .i32) (x0 : Vec F S64x128 .f32) (x1 : Vec F S1x512x3840 .bf16) (x2 : Vec F S3840x5376 .fp8e4m3) (x3 x4 : Vec F S1x5376 .f32) :
    Vec F S1x30x128x512 .bf16 := View.canon (qPieces (cosB i pos x0) (sinB i pos x0) (headB x1 x2 x3 x4))
def kB (i : grid0.Coords) (pos : Elt F .i32) (x0 : Vec F S64x128 .f32) (x1 : Vec F S1x512x3840 .bf16) (x2 : Vec F S3840x5376 .fp8e4m3) (x3 x4 : Vec F S1x5376 .f32) :
    Vec F S1x6x512x128 .bf16 := View.canon (kPieces (cosB i pos x0) (sinB i pos x0) (headB x1 x2 x3 x4))
def vB (x1 : Vec F S1x512x3840 .bf16) (x2 : Vec F S3840x5376 .fp8e4m3) (x3 x4 : Vec F S1x5376 .f32) :
    Vec F S1x6x128x512 .bf16 := View.canon (vPieces (headB x1 x2 x3 x4))
/-- Their row maxima written over row `i 1` of `Y`. -/
def rowsQ (i : grid0.Coords) (pos : Elt F .i32) (x0 : Vec F S64x128 .f32) (x1 : Vec F S1x512x3840 .bf16) (x2 : Vec F S3840x5376 .fp8e4m3) (x3 x4 : Vec F S1x5376 .f32)
    (Y : Vec F S30x8x512 .f32) : Vec F S30x8x512 .f32 := rowsNew (N := 30) i (fun n h => rowRot (cosB i pos x0) (sinB i pos x0) (headB x1 x2 x3 x4 n (by omega))) Y
def rowsK (i : grid0.Coords) (pos : Elt F .i32) (x0 : Vec F S64x128 .f32) (x1 : Vec F S1x512x3840 .bf16) (x2 : Vec F S3840x5376 .fp8e4m3) (x3 x4 : Vec F S1x5376 .f32)
    (Y : Vec F S6x8x512 .f32) : Vec F S6x8x512 .f32 := rowsNew (N := 6) i (fun n h => rowRot (cosB i pos x0) (sinB i pos x0) (headB x1 x2 x3 x4 (30 + n) (by omega))) Y
def rowsV (i : grid0.Coords) (x1 : Vec F S1x512x3840 .bf16) (x2 : Vec F S3840x5376 .fp8e4m3) (x3 x4 : Vec F S1x5376 .f32)
    (Y : Vec F S6x8x512 .f32) : Vec F S6x8x512 .f32 := rowsNew (N := 6) i (fun n h => rowPlain (headB x1 x2 x3 x4 (36 + n) (by omega))) Y

attribute [local irreducible] View.writes

set_option maxHeartbeats 8000000 in
/-- One grid point: from any contents, the codes, the heads and the rows are the block's; what is not named here ends at some contents. -/
theorem step0 (c : Dev nD) (i : grid0.Coords) (arg3 : Memref sig .tc .vmem S64x128 .f32) (harg3 : arg3.IsWhole) (arg4 : Memref sig .tc .vmem S1x512x3840 .bf16) (harg4 : arg4.IsWhole) (arg5 : Memref sig .tc .vmem S3840x5376 .fp8e4m3) (harg5 : arg5.IsWhole) (arg6 : Memref sig .tc .vmem S1x5376 .f32) (harg6 : arg6.IsWhole) (arg7 : Memref sig .tc .vmem S1x5376 .f32) (harg7 : arg7.IsWhole) (arg8 : Memref sig .tc .vmem S1x512x3840 .fp8e4m3) (harg8 : arg8.IsWhole) (arg9 : Memref sig .tc .vmem S8x512 .f32) (harg9 : arg9.IsWhole) (arg10 : Memref sig .tc .vmem S1x30x128x512 .bf16) (harg10 : arg10.IsWhole) (arg11 : Memref sig .tc .vmem S1x6x512x128 .bf16) (harg11 : arg11.IsWhole) (arg12 : Memref sig .tc .vmem S1x6x128x512 .bf16) (harg12 : arg12.IsWhole) (arg13 : Memref sig .tc .vmem S30x8x512 .f32) (harg13 : arg13.IsWhole) (arg14 : Memref sig .tc .vmem S6x8x512 .f32) (harg14 : arg14.IsWhole) (arg15 : Memref sig .tc .vmem S6x8x512 .f32) (harg15 : arg15.IsWhole) (arg16 : Memref sig .tc .vmem S1x30 .f32) (harg16 : arg16.IsWhole) (arg17 : Memref sig .tc .vmem S1x6 .f32) (harg17 : arg17.IsWhole) (arg18 : Memref sig .tc .vmem S1x6 .f32) (harg18 : arg18.IsWhole) (arg19 : Memref sig .tc .vmem S1x30 .f32) (harg19 : arg19.IsWhole) (arg20 : Memref sig .tc .vmem S1x6 .f32) (harg20 : arg20.IsWhole) (arg21 : Memref sig .tc .vmem S1x6 .f32) (harg21 : arg21.IsWhole) (arg22 : Memref sig .tc .vmem S512x128 .f32) (harg22 : arg22.IsWhole) (arg23 : Memref sig .tc .vmem S30x128 .f32) (harg23 : arg23.IsWhole) (arg24 : Memref sig .tc .vmem S6x128 .f32) (harg24 : arg24.IsWhole) (arg25 : Memref sig .tc .vmem S6x128 .f32) (harg25 : arg25.IsWhole)
    (x0 : Vec F S64x128 .f32) (x1 : Vec F S1x512x3840 .bf16) (x2 : Vec F S3840x5376 .fp8e4m3) (x3 : Vec F S1x5376 .f32) (x4 : Vec F S1x5376 .f32) (xt0 : TbBuf0 (F := F) c tbM0_0)
    (Y9 : Vec F S8x512 .f32) (Y13 : Vec F S30x8x512 .f32) (Y14 Y15 : Vec F S6x8x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare Y9 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare Y13 ∗ owns (c : Thread nD τ) arg14 fullShare Y14 ∗ owns (c : Thread nD τ) arg15 fullShare Y15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ tbPt0 c tbM0_0 xt0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (codesB x1) ∗ owns (c : Thread nD τ) arg9 fullShare (xsNew i (xsbB x1) Y9) ∗ owns (c : Thread nD τ) arg10 fullShare (qB i (posW c i xt0) x0 x1 x2 x3 x4) ∗ owns (c : Thread nD τ) arg11 fullShare (kB i (posW c i xt0) x0 x1 x2 x3 x4) ∗ owns (c : Thread nD τ) arg12 fullShare (vB x1 x2 x3 x4) ∗ owns (c : Thread nD τ) arg13 fullShare (rowsQ i (posW c i xt0) x0 x1 x2 x3 x4 Y13) ∗ owns (c : Thread nD τ) arg14 fullShare (rowsK i (posW c i xt0) x0 x1 x2 x3 x4 Y14) ∗ owns (c : Thread nD τ) arg15 fullShare (rowsV i x1 x2 x3 x4 Y15) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ tbPt0 c tbM0_0 xt0) -∗ K ⟨⟩))
      ⊢ wp frame (wpE (defs₀ (F := F)) Variants.none c none) E (cc0_quant_qkv_rope i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  generalize hA0 : (owns (c : Thread nD τ) arg3 fullShare x0 : sProp 𝕄) = A0
  generalize hA1 : (owns (c : Thread nD τ) arg4 fullShare x1 : sProp 𝕄) = A1
  generalize hA2 : (owns (c : Thread nD τ) arg5 fullShare x2 : sProp 𝕄) = A2
  generalize hA3 : (owns (c : Thread nD τ) arg6 fullShare x3 : sProp 𝕄) = A3
  generalize hA4 : (owns (c : Thread nD τ) arg7 fullShare x4 : sProp 𝕄) = A4
  unfold owns
  subst hA0 hA1 hA2 hA3 hA4
  iintro ⟨H0, H1, H2, H3, H4, ⟨%d8, %f8, %e8, H5⟩, ⟨%f9, %e9, H6⟩, ⟨%d10, %f10, %e10, H7⟩, ⟨%d11, %f11, %e11, H8⟩, ⟨%d12, %f12, %e12, H9⟩, ⟨%f13, %e13, H10⟩, ⟨%f14, %e14, H11⟩, ⟨%f15, %e15, H12⟩, ⟨%d16, %f16, %e16, H13⟩, ⟨%d17, %f17, %e17, H14⟩, ⟨%d18, %f18, %e18, H15⟩, ⟨%d19, %f19, %e19, H16⟩, ⟨%d20, %f20, %e20, H17⟩, ⟨%d21, %f21, %e21, H18⟩, ⟨%d22, %f22, %e22, HS0⟩, ⟨%d23, %f23, %e23, HS1⟩, ⟨%d24, %f24, %e24, HS2⟩, ⟨%d25, %f25, %e25, HS3⟩, HT0, Hk⟩
  iapply ((kernelRun0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 xt0 f8 f9 f10 f11 f12 f13 f14 f15 f16 f17 f18 f19 f20 f21 f22 f23 f24 f25).2.2.2.2.2.2.2.2.2.2.2.2.2.2.2.2.2.property E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [HS0]; · iexact HS0
  isplitl [HS1]; · iexact HS1
  isplitl [HS2]; · iexact HS2
  isplitl [HS3]; · iexact HS3
  isplitl [HT0]; · iexact HT0
  iintro ⟨H0, H1, H2, H3, H4, H5, H6, H7, H8, H9, H10, H11, H12, H13, H14, H15, H16, H17, H18, HS0, HS1, HS2, HS3, HT0⟩
  iapply Hk
  isplitl [H0]; · iexact H0
  isplitl [H1]; · iexact H1
  isplitl [H2]; · iexact H2
  isplitl [H3]; · iexact H3
  isplitl [H4]; · iexact H4
  isplitl [H5]
  · iexists _; isplitr
    swap; · iexact H5
    ipureintro
    show arg8.view.read (Elt F) (arg8.view.writes (Elt F) f8 (kernelRun0.sl.H5_8 c arg4 harg4 x1)) = _
    rw [H5_eq]; exact View.read_writes_eq_canon _ _ _ (cover_codes _)
  isplitl [H6]
  · iexists _; isplitr
    swap; · iexact H6
    ipureintro
    show arg9.view.read (Elt F) (kernelRun0.sl.H6_w4 c i arg4 harg4 arg9 arg22 x1 f9) = _
    rw [H6_eq, read_xs, e9]
  isplitl [H7]
  · iexists _; isplitr
    swap; · iexact H7
    ipureintro
    show arg10.view.read (Elt F) (arg10.view.writes (Elt F) f10 (kernelRun0.sl.H7_60 c i arg3 harg3 arg4 harg4 arg5 harg5 arg6 harg6 arg7 harg7 arg8 arg22 x0 x1 x2 x3 x4 xt0)) = _
    rw [H7_eq, v515_eq, v517_eq]; exact View.read_writes_eq_canon _ _ _ (cover_q _ _ _)
  isplitl [H8]
  · iexists _; isplitr
    swap; · iexact H8
    ipureintro
    show arg11.view.read (Elt F) (arg11.view.writes (Elt F) f11 (kernelRun0.sl.H8_6 c i arg3 harg3 arg4 harg4 arg5 harg5 arg6 harg6 arg7 harg7 arg8 arg22 x0 x1 x2 x3 x4 xt0)) = _
    rw [H8_eq, v515_eq, v517_eq]; exact View.read_writes_eq_canon _ _ _ (cover_k _ _ _)
  isplitl [H9]
  · iexists _; isplitr
    swap; · iexact H9
    ipureintro
    show arg12.view.read (Elt F) (arg12.view.writes (Elt F) f12 (kernelRun0.sl.H9_6 c arg4 harg4 arg5 harg5 arg6 harg6 arg7 harg7 arg8 arg22 x1 x2 x3 x4)) = _
    rw [H9_eq, v515_eq, v517_eq]; exact View.read_writes_eq_canon _ _ _ (cover_v _)
  isplitl [H10]
  · iexists _; isplitr
    swap; · iexact H10
    ipureintro
    show arg13.view.read (Elt F) (kernelRun0.sl.H10_w34 c i arg3 harg3 arg4 harg4 arg5 harg5 arg6 harg6 arg7 harg7 arg8 arg13 arg22 x0 x1 x2 x3 x4 xt0 f13) = _
    rw [H10_eq, read_rows, e13]; rfl
  isplitl [H11]
  · iexists _; isplitr
    swap; · iexact H11
    ipureintro
    show arg14.view.read (Elt F) (kernelRun0.sl.H11_w40 c i arg3 harg3 arg4 harg4 arg5 harg5 arg6 harg6 arg7 harg7 arg8 arg14 arg22 x0 x1 x2 x3 x4 xt0 f14) = _
    rw [H11_eq, read_rows, e14]; rfl
  isplitl [H12]
  · iexists _; isplitr
    swap; · iexact H12
    ipureintro
    show arg15.view.read (Elt F) (kernelRun0.sl.H12_w46 c i arg4 harg4 arg5 harg5 arg6 harg6 arg7 harg7 arg8 arg15 arg22 x1 x2 x3 x4 f15) = _
    rw [H12_eq, read_rows, e15]; rfl
  isplitl [H13]
  · iexists _, _; isplitr
    swap; · iexact H13
    ipureintro; rfl
  isplitl [H14]
  · iexists _, _; isplitr
    swap; · iexact H14
    ipureintro; rfl
  isplitl [H15]
  · iexists _, _; isplitr
    swap; · iexact H15
    ipureintro; rfl
  isplitl [H16]
  · iexists _, _; isplitr
    swap; · iexact H16
    ipureintro; rfl
  isplitl [H17]
  · iexists _, _; isplitr
    swap; · iexact H17
    ipureintro; rfl
  isplitl [H18]
  · iexists _, _; isplitr
    swap; · iexact H18
    ipureintro; rfl
  isplitl [HS0]
  · iexists _, _; isplitr
    swap; · iexact HS0
    ipureintro; rfl
  isplitl [HS1]
  · iexists _, _; isplitr
    swap; · iexact HS1
    ipureintro; rfl
  isplitl [HS2]
  · iexists _, _; isplitr
    swap; · iexact HS2
    ipureintro; rfl
  isplitl [HS3]
  · iexists _, _; isplitr
    swap; · iexact HS3
    ipureintro; rfl
  iexact HT0

end Cert.ProjIdeal.Hand

end
-- ==== Proof.ProjI.Stores.lean ====
module

public import proofs.«01_k».proof.Proof.ProjI.Heads
public import proofs.«01_k».proof.Proof.ProjI.Step

/-! The blocks of heads that one grid point of the projection kernel stores, entry by entry, and the rows it writes. -/

@[expose] public section

set_option maxRecDepth 16384
set_option maxHeartbeats 4000000

noncomputable section

namespace Cert.ProjIdeal.Hand

open Cert.ProjIdeal.Gen Cert.Value
open Idealize.ShloMosaic Idealize.ShloMosaic.TcCoe Idealize.ShloMosaic.Tactic

/-- The heads of the queries, keys and values among the 42. -/
def qHead (n : Fin 30) : Fin 42 := ⟨n.val, by omega⟩
def kHead (n : Fin 6) : Fin 42 := ⟨30 + n.val, by omega⟩
def vHead (n : Fin 6) : Fin 42 := ⟨36 + n.val, by omega⟩

variable (i : grid0.Coords) (pos : BitVec 32) (x0 : Vec Ideal S64x128 .f32) (x1 : Vec Ideal S1x512x3840 .bf16) (x2 : Vec Ideal S3840x5376 .fp8e4m3)
    (x3 x4 : Vec Ideal S1x5376 .f32)

theorem castQ_eq (v : FVec Ideal S64x512 .bf16) (j : Fin 64) (l : Fin 512) :
    shapeCast S1x1x64x512 v shapeCasts_S64x512_S1x1x64x512 (ix4 (0 : Fin 1) (0 : Fin 1) j l) = v (ix2 j l) :=
  castQ_any v j l (fun u => u = v (ix2 j l)) rfl
theorem castV_eq (v : FVec Ideal S128x512 .bf16) (j : Fin 128) (l : Fin 512) :
    shapeCast S1x1x128x512 v shapeCasts_S128x512_S1x1x128x512 (ix4 (0 : Fin 1) (0 : Fin 1) j l) = v (ix2 j l) :=
  castV_any v j l (fun u => u = v (ix2 j l)) rfl
theorem castK_eq (lo hi : FVec Ideal S64x512 .bf16) (l : Fin 512) (j : Fin 128) :
    shapeCast S1x1x512x128 (transpose S512x128 [1, 0]
          (concatenate S128x512 0 [⟨S64x512, lo⟩, ⟨S64x512, hi⟩] concatenates_S64x512_S64x512_S128x512_d0)
          transposes_S128x512_p1_0_S512x128) shapeCasts_S512x128_S1x1x512x128 (ix4 (0 : Fin 1) (0 : Fin 1) l j)
      = if h : j.val < 64 then lo (ix2 ⟨j.val, h⟩ l) else hi (ix2 (⟨j.val - 64, by omega⟩ : Fin 64) l) :=
  castK_any lo hi l j (fun u => u = if h : j.val < 64 then lo (ix2 ⟨j.val, h⟩ l) else hi (ix2 (⟨j.val - 64, by omega⟩ : Fin 64) l)) rfl

theorem lo_or_hi (n : Nat) (h : n < 42) (j : Fin 128) (l : Fin 512) :
    (if h' : j.val < 64 then rotLo (cosB i pos x0) (sinB i pos x0) (headB x1 x2 x3 x4 n h) (ix2 ⟨j.val, h'⟩ l)
      else rotHi (cosB i pos x0) (sinB i pos x0) (headB x1 x2 x3 x4 n h) (ix2 (⟨j.val - 64, by omega⟩ : Fin 64) l))
      = rE i pos x0 x1 x2 x3 x4 ⟨n, h⟩ l j := by
  by_cases h' : j.val < 64
  · rw [dif_pos h', rotLo_at]
  · rw [dif_neg h', rotHi_at]
    exact congrArg (rE i pos x0 x1 x2 x3 x4 ⟨n, h⟩ l) (Fin.ext (show 64 + (j.val - 64) = j.val by omega))
/-- The query heads. -/
theorem qB_at (y : S1x30x128x512.Idx) : qB i pos x0 x1 x2 x3 x4 y
    = rE i pos x0 x1 x2 x3 x4 (qHead (y 1)) (y 3 : Fin 512) (y 2 : Fin 128) := by
  refine View.canon_apply_of_pieces (fun y => rE i pos x0 x1 x2 x3 x4 (qHead (y 1)) (y 3 : Fin 512) (y 2 : Fin 128))
    (qPieces (cosB i pos x0) (sinB i pos x0) (headB x1 x2 x3 x4)) ?_ y (cover_q _ _ _ y)
  intro p hp x
  obtain ⟨k, hk, hp⟩ := (mem_tower _ _ _ _).1 hp
  rcases List.mem_cons.1 hp with hp | hp
  · subst hp
    obtain ⟨a, b, j, l, rfl⟩ : ∃ (a : Fin 1) (b : Fin 1) (j : Fin 64) (l : Fin 512), x = ix4 a b j l := ⟨x 0, x 1, x 2, x 3, (ix4_eta x).symm⟩
    obtain rfl : a = 0 := Subsingleton.elim _ _
    obtain rfl : b = 0 := Subsingleton.elim _ _
    have he : (Rect.unit (s := S1x30x128x512) ![0, k, 64, 0] S1x1x64x512.size (inbQhi hk)).emb (ix4 (0 : Fin 1) (0 : Fin 1) j l)
        = ix4 (0 : Fin 1) (⟨k, hk⟩ : Fin 30) (⟨64 + j.val, by omega⟩ : Fin 128) l := by
      funext a; refine Fin.ext ?_; fin_cases a <;> simp [Rect.emb, LoadRect.idx, Rect.unit, ix4]
    dsimp only
    rw [castQ_eq, rotHi_at, he]
    rfl
  · rw [List.mem_singleton] at hp
    subst hp
    obtain ⟨a, b, j, l, rfl⟩ : ∃ (a : Fin 1) (b : Fin 1) (j : Fin 64) (l : Fin 512), x = ix4 a b j l := ⟨x 0, x 1, x 2, x 3, (ix4_eta x).symm⟩
    obtain rfl : a = 0 := Subsingleton.elim _ _
    obtain rfl : b = 0 := Subsingleton.elim _ _
    have he : (Rect.unit (s := S1x30x128x512) ![0, k, 0, 0] S1x1x64x512.size (inbQlo hk)).emb (ix4 (0 : Fin 1) (0 : Fin 1) j l)
        = ix4 (0 : Fin 1) (⟨k, hk⟩ : Fin 30) (⟨j.val, by omega⟩ : Fin 128) l := by
      funext a; refine Fin.ext ?_; fin_cases a <;> simp [Rect.emb, LoadRect.idx, Rect.unit, ix4]
    dsimp only
    rw [castQ_eq, rotLo_at, he]
    rfl
/-- The key heads. -/
theorem kB_at (y : S1x6x512x128.Idx) : kB i pos x0 x1 x2 x3 x4 y
    = rE i pos x0 x1 x2 x3 x4 (kHead (y 1)) (y 2 : Fin 512) (y 3 : Fin 128) := by
  refine View.canon_apply_of_pieces (fun y => rE i pos x0 x1 x2 x3 x4 (kHead (y 1)) (y 2 : Fin 512) (y 3 : Fin 128))
    (kPieces (cosB i pos x0) (sinB i pos x0) (headB x1 x2 x3 x4)) ?_ y (cover_k _ _ _ y)
  intro p hp x
  obtain ⟨k, hk, hp⟩ := (mem_tower _ _ _ _).1 hp
  rw [List.mem_singleton] at hp
  subst hp
  obtain ⟨a, b, l, j, rfl⟩ : ∃ (a : Fin 1) (b : Fin 1) (l : Fin 512) (j : Fin 128), x = ix4 a b l j := ⟨x 0, x 1, x 2, x 3, (ix4_eta x).symm⟩
  obtain rfl : a = 0 := Subsingleton.elim _ _
  obtain rfl : b = 0 := Subsingleton.elim _ _
  have he : (Rect.unit (s := S1x6x512x128) ![0, k, 0, 0] S1x1x512x128.size (inbK hk)).emb (ix4 (0 : Fin 1) (0 : Fin 1) l j)
      = ix4 (0 : Fin 1) (⟨k, hk⟩ : Fin 6) l j := by
    funext a; refine Fin.ext ?_; fin_cases a <;> simp [Rect.emb, LoadRect.idx, Rect.unit, ix4]
  dsimp only
  rw [castK_eq, lo_or_hi, he]
  rfl
/-- The value heads. -/
theorem vB_at (y : S1x6x128x512.Idx) : vB x1 x2 x3 x4 y
    = hE x1 x2 x3 x4 (vHead (y 1)) (y 3 : Fin 512) (y 2 : Fin 128) := by
  refine View.canon_apply_of_pieces (fun y => hE x1 x2 x3 x4 (vHead (y 1)) (y 3 : Fin 512) (y 2 : Fin 128))
    (vPieces (headB x1 x2 x3 x4)) ?_ y (cover_v _ y)
  intro p hp x
  obtain ⟨k, hk, hp⟩ := (mem_tower _ _ _ _).1 hp
  rw [List.mem_singleton] at hp
  subst hp
  obtain ⟨a, b, j, l, rfl⟩ : ∃ (a : Fin 1) (b : Fin 1) (j : Fin 128) (l : Fin 512), x = ix4 a b j l := ⟨x 0, x 1, x 2, x 3, (ix4_eta x).symm⟩
  obtain rfl : a = 0 := Subsingleton.elim _ _
  obtain rfl : b = 0 := Subsingleton.elim _ _
  have he : (Rect.unit (s := S1x6x128x512) ![0, k, 0, 0] S1x1x128x512.size (inbVt hk)).emb (ix4 (0 : Fin 1) (0 : Fin 1) j l)
      = ix4 (0 : Fin 1) (⟨k, hk⟩ : Fin 6) j l := by
    funext a; refine Fin.ext ?_; fin_cases a <;> simp [Rect.emb, LoadRect.idx, Rect.unit, ix4]
  dsimp only
  rw [castV_eq, headB_at, he]
  rfl
/-- The rows. -/
theorem rowsQ_at (Y : Vec Ideal S30x8x512 .f32) (n : Fin 30) (b : Fin 8) (l : Fin 512) (h : b.val = (i 1).val) :
    rowsQ i pos x0 x1 x2 x3 x4 Y (ix3 n b l) = ⨆ j, mag (rE i pos x0 x1 x2 x3 x4 (qHead n) l j) := by
  unfold rowsQ rowsNew
  refine (if_pos h).trans ?_
  exact rowRot_at i pos x0 x1 x2 x3 x4 n.val (by omega) b l
theorem rowsK_at (Y : Vec Ideal S6x8x512 .f32) (n : Fin 6) (b : Fin 8) (l : Fin 512) (h : b.val = (i 1).val) :
    rowsK i pos x0 x1 x2 x3 x4 Y (ix3 n b l) = ⨆ j, mag (rE i pos x0 x1 x2 x3 x4 (kHead n) l j) := by
  unfold rowsK rowsNew
  refine (if_pos h).trans ?_
  exact rowRot_at i pos x0 x1 x2 x3 x4 (30 + n.val) (by omega) b l
theorem rowsV_at (Y : Vec Ideal S6x8x512 .f32) (n : Fin 6) (b : Fin 8) (l : Fin 512) (h : b.val = (i 1).val) :
    rowsV i x1 x2 x3 x4 Y (ix3 n b l) = ⨆ j, mag (hE x1 x2 x3 x4 (vHead n) l j) := by
  unfold rowsV rowsNew
  refine (if_pos h).trans ?_
  exact rowPlain_at x1 x2 x3 x4 (36 + n.val) (by omega) b l
/-- The row of scales. -/
theorem xsNew_at (Y : Vec Ideal S8x512 .f32) (b : Fin 8) (l : Fin 512) (h : b.val = (i 1).val) (h0 : 0 ≤ kerXs (bmax x1 l)) :
    xsNew i (xsbB x1) Y (ix2 b l) = kerXs (bmax x1 l) := by
  unfold xsNew
  refine (if_pos h).trans ?_
  have e : (⟨128 * (l.val / 128) + l.val % 128, by omega⟩ : Fin 512) = l := Fin.ext (show 128 * (l.val / 128) + l.val % 128 = l.val by omega)
  have := xsRow_at x1 (l.val / 128) (by omega) b ⟨l.val % 128, Nat.mod_lt _ (by decide)⟩ (by rw [e]; exact h0)
  rw [e] at this
  exact this
end Cert.ProjIdeal.Hand
end
-- ==== Proof.ProjI.Frame.lean ====
module

public import proofs.«01_k».proof.Proof.ProjI.Step
public import Idealize.ShloMosaic.Lib.Claim
public import Idealize.ShloMosaic.Lib.Pipeline.DatRel
public import Idealize.ShloMosaic.Lib.Pipeline.ArrRel

/-! The run of the projection program, each output block described by what it holds: the codes, the heads, and the rows
written so far. -/

@[expose] public section

-- membership in a rectangle of production extents (`View.cover_of_tiled`): the elaborator's structural look
-- recurses once per coordinate of the long axes
set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Rows written one after another -/

/-- At point `t` of a run of eight, the rows of the points of the run so far are those that `new` writes. -/
def RowsAt {n : ℕ} {ι : Type} {V : Type} (new : Fin n → (ι → V) → ι → V) (row : ι → ℕ) (t : Fin n) (X : ι → V) : Prop :=
  ∀ u : Fin n, u.val / 8 = t.val / 8 → u.val ≤ t.val → ∀ Y y, row y = u.val % 8 → X y = new u Y y

/-- One more row. -/
theorem RowsAt.step {n : ℕ} {ι : Type} {V : Type} {new : Fin n → (ι → V) → ι → V} {row : ι → ℕ}
    (h1 : ∀ u Y Y' y, row y = u.val % 8 → new u Y y = new u Y' y) (h2 : ∀ u Y y, row y ≠ u.val % 8 → new u Y y = Y y)
    (t : Fin n) (Y : ι → V) (hY : t.val % 8 ≠ 0 → RowsAt new row ⟨t.val - 1, by omega⟩ Y) : RowsAt new row t (new t Y) := by
  intro u hu hle Y' y hy
  by_cases e : u = t
  · subst e; exact h1 u _ _ y hy
  · have hne : u.val ≠ t.val := fun h => e (Fin.ext h)
    have ht : t.val % 8 ≠ 0 := by omega
    rw [h2 t Y y (by omega)]
    exact hY ht u (by show u.val / 8 = (t.val - 1) / 8; omega) (by show u.val ≤ t.val - 1; omega) Y' y hy

theorem coords_one : ∀ t : Fin grid0.N, (grid0.coords t 1).val = t.val % 8 := by decide +kernel
theorem coords_zero : ∀ t : Fin grid0.N, (grid0.coords t 0).val = t.val / 8 := by decide +kernel

theorem rowsNew_row {N : Nat} (i : grid0.Coords) (row : (n : Nat) → n < N → FVec F S1x8x512 .f32) (Y Y' : Vec F ⟨3, ![N, 8, 512]⟩ .f32)
    (y : (⟨3, ![N, 8, 512]⟩ : Shape).Idx) (h : (y 1).val = (i 1).val) : rowsNew i row Y y = rowsNew i row Y' y := by
  unfold rowsNew; rw [if_pos h, if_pos h]
theorem rowsNew_other {N : Nat} (i : grid0.Coords) (row : (n : Nat) → n < N → FVec F S1x8x512 .f32) (Y : Vec F ⟨3, ![N, 8, 512]⟩ .f32)
    (y : (⟨3, ![N, 8, 512]⟩ : Shape).Idx) (h : (y 1).val ≠ (i 1).val) : rowsNew i row Y y = Y y := by
  unfold rowsNew; rw [if_neg h]
theorem xsNew_row (i : grid0.Coords) (xsb : Vec F S512x128 .f32) (Y Y' : Vec F S8x512 .f32)
    (y : S8x512.Idx) (h : (y 0).val = (i 1).val) : xsNew i xsb Y y = xsNew i xsb Y' y := by
  unfold xsNew; rw [if_pos h, if_pos h]
theorem xsNew_other (i : grid0.Coords) (xsb : Vec F S512x128 .f32) (Y : Vec F S8x512 .f32)
    (y : S8x512.Idx) (h : (y 0).val ≠ (i 1).val) : xsNew i xsb Y y = Y y := by
  unfold xsNew; rw [if_neg h]

variable (m : (ℓ : Loc nD τ sig) → Buf (Elt F) ℓ) (ρ : Dev nD → PrngReg)

/-! ## What each block holds -/

/-- The output windows, each described by a predicate. -/
def marks : Fin 19 → Bool := fun w => decide (5 ≤ w.val)

/-- The exact data: the input blocks; the outputs are described by `Rl`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => Pipeline.Dat.unnamed (cfg := (cfgM m hO)) ⟨5, h⟩ t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
    | ⟨12, h⟩ => Pipeline.Dat.unnamed (cfg := (cfgM m hO)) ⟨12, h⟩ t
    | ⟨13, h⟩ => Pipeline.Dat.unnamed (cfg := (cfgM m hO)) ⟨13, h⟩ t
    | ⟨14, h⟩ => Pipeline.Dat.unnamed (cfg := (cfgM m hO)) ⟨14, h⟩ t
    | ⟨15, h⟩ => Pipeline.Dat.unnamed (cfg := (cfgM m hO)) ⟨15, h⟩ t
    | ⟨16, h⟩ => Pipeline.Dat.unnamed (cfg := (cfgM m hO)) ⟨16, h⟩ t
    | ⟨17, h⟩ => Pipeline.Dat.unnamed (cfg := (cfgM m hO)) ⟨17, h⟩ t
    | ⟨18, h⟩ => Pipeline.Dat.unnamed (cfg := (cfgM m hO)) ⟨18, h⟩ t
    | ⟨_ + 19, h⟩ => absurd h (Nat.not_lt.2 (Nat.le_add_left _ _))
  Φ _ := iprop(Pipeline.ΦA spec0 c ∗ Pipeline.ΦT pre0 (tbl m) c)
  q _ := fullShare
  owed _ := 0

/-- The position offset that point `t` reads. -/
abbrev posAt (c : Dev nD) (t : Fin grid0.N) : Elt F .i32 := posW c (grid0.coords t) (tbl m 0)

/-- The rows that point `u` writes. -/
def xsAt (hO : Ok m) (c : Dev nD) (u : Fin (cfgM m hO).N) (Y : Vec F S8x512 .f32) : Vec F S8x512 .f32 :=
  xsNew (grid0.coords u) (xsbB (iblk m hO c 1 u)) Y
def rqAt (hO : Ok m) (c : Dev nD) (u : Fin (cfgM m hO).N) (Y : Vec F S30x8x512 .f32) : Vec F S30x8x512 .f32 :=
  rowsQ (grid0.coords u) (posAt m c u) (iblk m hO c 0 u) (iblk m hO c 1 u) (iblk m hO c 2 u) (iblk m hO c 3 u) (iblk m hO c 4 u) Y
def rkAt (hO : Ok m) (c : Dev nD) (u : Fin (cfgM m hO).N) (Y : Vec F S6x8x512 .f32) : Vec F S6x8x512 .f32 :=
  rowsK (grid0.coords u) (posAt m c u) (iblk m hO c 0 u) (iblk m hO c 1 u) (iblk m hO c 2 u) (iblk m hO c 3 u) (iblk m hO c 4 u) Y
def rvAt (hO : Ok m) (c : Dev nD) (u : Fin (cfgM m hO).N) (Y : Vec F S6x8x512 .f32) : Vec F S6x8x512 .f32 :=
  rowsV (grid0.coords u) (iblk m hO c 1 u) (iblk m hO c 2 u) (iblk m hO c 3 u) (iblk m hO c 4 u) Y

/-- What the body leaves in each output block at point `t`. -/
def Rl (hO : Ok m) (c : Dev nD) (w : Fin (cfgM m hO).W) (t : Fin (cfgM m hO).N) : (((cfgM m hO).win w).block.Idx → Elt F ((cfgM m hO).win w).elt) → Prop :=
  match w with
  | ⟨5, _⟩ => fun (X : Vec F S1x512x3840 .fp8e4m3) => X = codesB (iblk m hO c 1 t)
  | ⟨6, _⟩ => fun (X : Vec F S8x512 .f32) => RowsAt (xsAt m hO c) (fun y => (y 0).val) t X
  | ⟨7, _⟩ => fun (X : Vec F S1x30x128x512 .bf16) => X = qB (grid0.coords t) (posAt m c t) (iblk m hO c 0 t) (iblk m hO c 1 t) (iblk m hO c 2 t) (iblk m hO c 3 t) (iblk m hO c 4 t)
  | ⟨8, _⟩ => fun (X : Vec F S1x6x512x128 .bf16) => X = kB (grid0.coords t) (posAt m c t) (iblk m hO c 0 t) (iblk m hO c 1 t) (iblk m hO c 2 t) (iblk m hO c 3 t) (iblk m hO c 4 t)
  | ⟨9, _⟩ => fun (X : Vec F S1x6x128x512 .bf16) => X = vB (iblk m hO c 1 t) (iblk m hO c 2 t) (iblk m hO c 3 t) (iblk m hO c 4 t)
  | ⟨10, _⟩ => fun (X : Vec F S30x8x512 .f32) => RowsAt (rqAt m hO c) (fun y => (y 1).val) t X
  | ⟨11, _⟩ => fun (X : Vec F S6x8x512 .f32) => RowsAt (rkAt m hO c) (fun y => (y 1).val) t X
  | ⟨12, _⟩ => fun (X : Vec F S6x8x512 .f32) => RowsAt (rvAt m hO c) (fun y => (y 1).val) t X
  | _ => fun _ => True

theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-- What a window of rows holds before point `t`, off the start of a run of eight. -/
theorem found (hO : Ok m) (c : Dev nD) (w : Fin (cfgM m hO).W) (hw : marks w = true) (t : Fin (cfgM m hO).N)
    (hf : ((cfgM m hO).win w).fetch t = false) (hl : ∀ u : Fin (cfgM m hO).N, ((cfgM m hO).win w).flush u = true → u.val % 8 = 7)
    (Y) (hY : ((dats m hO 0 c).toRRel marks (Rl m hO c)).Finds w t Y) (ht : t.val % 8 ≠ 0) :
    Rl m hO c w ⟨t.val - 1, by omega⟩ Y := by
  rcases (Pipeline.RDat.finds_of_pos _ hf (by omega) Y).mp hY with h | h
  · have := hl _ h; simp only at this; omega
  · exact Dat.toRRel_leaves _ hw h

theorem xsAt_row (hO : Ok m) (c : Dev nD) (u : Fin (cfgM m hO).N) (Y Y' : Vec F S8x512 .f32) (y : S8x512.Idx)
    (h : (y 0).val = u.val % 8) : xsAt m hO c u Y y = xsAt m hO c u Y' y := by
  unfold xsAt; exact xsNew_row _ _ _ _ _ (h.trans (coords_one u).symm)
theorem xsAt_other (hO : Ok m) (c : Dev nD) (u : Fin (cfgM m hO).N) (Y : Vec F S8x512 .f32) (y : S8x512.Idx)
    (h : (y 0).val ≠ u.val % 8) : xsAt m hO c u Y y = Y y := by
  unfold xsAt; exact xsNew_other _ _ _ _ fun e => h (e.trans (coords_one u))
theorem rqAt_row (hO : Ok m) (c : Dev nD) (u : Fin (cfgM m hO).N) (Y Y' : Vec F S30x8x512 .f32) (y : (S30x8x512).Idx)
    (h : (y 1).val = u.val % 8) : rqAt m hO c u Y y = rqAt m hO c u Y' y := by
  unfold rqAt rowsQ; exact rowsNew_row _ _ _ _ _ (h.trans (coords_one u).symm)
theorem rqAt_other (hO : Ok m) (c : Dev nD) (u : Fin (cfgM m hO).N) (Y : Vec F S30x8x512 .f32) (y : (S30x8x512).Idx)
    (h : (y 1).val ≠ u.val % 8) : rqAt m hO c u Y y = Y y := by
  unfold rqAt rowsQ; exact rowsNew_other _ _ _ _ fun e => h (e.trans (coords_one u))
theorem rkAt_row (hO : Ok m) (c : Dev nD) (u : Fin (cfgM m hO).N) (Y Y' : Vec F S6x8x512 .f32) (y : (S6x8x512).Idx)
    (h : (y 1).val = u.val % 8) : rkAt m hO c u Y y = rkAt m hO c u Y' y := by
  unfold rkAt rowsK; exact rowsNew_row _ _ _ _ _ (h.trans (coords_one u).symm)
theorem rkAt_other (hO : Ok m) (c : Dev nD) (u : Fin (cfgM m hO).N) (Y : Vec F S6x8x512 .f32) (y : (S6x8x512).Idx)
    (h : (y 1).val ≠ u.val % 8) : rkAt m hO c u Y y = Y y := by
  unfold rkAt rowsK; exact rowsNew_other _ _ _ _ fun e => h (e.trans (coords_one u))
theorem rvAt_row (hO : Ok m) (c : Dev nD) (u : Fin (cfgM m hO).N) (Y Y' : Vec F S6x8x512 .f32) (y : (S6x8x512).Idx)
    (h : (y 1).val = u.val % 8) : rvAt m hO c u Y y = rvAt m hO c u Y' y := by
  unfold rvAt rowsV; exact rowsNew_row _ _ _ _ _ (h.trans (coords_one u).symm)
theorem rvAt_other (hO : Ok m) (c : Dev nD) (u : Fin (cfgM m hO).N) (Y : Vec F S6x8x512 .f32) (y : (S6x8x512).Idx)
    (h : (y 1).val ≠ u.val % 8) : rvAt m hO c u Y y = Y y := by
  unfold rvAt rowsV; exact rowsNew_other _ _ _ _ fun e => h (e.trans (coords_one u))

theorem step_6 (hO : Ok m) (c : Dev nD) (t : Fin (cfgM m hO).N) (Y : Vec F S8x512 .f32)
    (hY : ((dats m hO 0 c).toRRel marks (Rl m hO c)).Finds 6 t Y) : Rl m hO c 6 t (xsAt m hO c t Y) := by
  have hp : t.val % 8 ≠ 0 → RowsAt (xsAt m hO c) (fun y : (S8x512).Idx => (y 0).val) ⟨t.val - 1, by omega⟩ Y := fun ht =>
    found m hO c 6 rfl t rfl (fun u h => (flush0_6 _ u).mp h) Y hY ht
  exact RowsAt.step (xsAt_row m hO c) (xsAt_other m hO c) t Y hp

theorem step_10 (hO : Ok m) (c : Dev nD) (t : Fin (cfgM m hO).N) (Y : Vec F S30x8x512 .f32)
    (hY : ((dats m hO 0 c).toRRel marks (Rl m hO c)).Finds 10 t Y) : Rl m hO c 10 t (rqAt m hO c t Y) := by
  have hp : t.val % 8 ≠ 0 → RowsAt (rqAt m hO c) (fun y : (S30x8x512).Idx => (y 1).val) ⟨t.val - 1, by omega⟩ Y := fun ht =>
    found m hO c 10 rfl t rfl (fun u h => (flush0_10 _ u).mp h) Y hY ht
  exact RowsAt.step (rqAt_row m hO c) (rqAt_other m hO c) t Y hp

theorem step_11 (hO : Ok m) (c : Dev nD) (t : Fin (cfgM m hO).N) (Y : Vec F S6x8x512 .f32)
    (hY : ((dats m hO 0 c).toRRel marks (Rl m hO c)).Finds 11 t Y) : Rl m hO c 11 t (rkAt m hO c t Y) := by
  have hp : t.val % 8 ≠ 0 → RowsAt (rkAt m hO c) (fun y : (S6x8x512).Idx => (y 1).val) ⟨t.val - 1, by omega⟩ Y := fun ht =>
    found m hO c 11 rfl t rfl (fun u h => (flush0_11 _ u).mp h) Y hY ht
  exact RowsAt.step (rkAt_row m hO c) (rkAt_other m hO c) t Y hp

theorem step_12 (hO : Ok m) (c : Dev nD) (t : Fin (cfgM m hO).N) (Y : Vec F S6x8x512 .f32)
    (hY : ((dats m hO 0 c).toRRel marks (Rl m hO c)).Finds 12 t Y) : Rl m hO c 12 t (rvAt m hO c t Y) := by
  have hp : t.val % 8 ≠ 0 → RowsAt (rvAt m hO c) (fun y : (S6x8x512).Idx => (y 1).val) ⟨t.val - 1, by omega⟩ Y := fun ht =>
    found m hO c 12 rfl t rfl (fun u h => (flush0_12 _ u).mp h) Y hY ht
  exact RowsAt.step (rvAt_row m hO c) (rvAt_other m hO c) t Y hp

/-! ## The body at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ Y, ⌜((dats m hO 0 c).toRRel marks (Rl m hO c)).Finds 5 t Y⌝ ∗ owns (c : Thread nD τ) (ms0_5 m hO t) fullShare Y)
    ∗ (∃ Y, ⌜((dats m hO 0 c).toRRel marks (Rl m hO c)).Finds 6 t Y⌝ ∗ owns (c : Thread nD τ) (ms0_6 m hO t) fullShare Y)
    ∗ (∃ Y, ⌜((dats m hO 0 c).toRRel marks (Rl m hO c)).Finds 7 t Y⌝ ∗ owns (c : Thread nD τ) (ms0_7 m hO t) fullShare Y)
    ∗ (∃ Y, ⌜((dats m hO 0 c).toRRel marks (Rl m hO c)).Finds 8 t Y⌝ ∗ owns (c : Thread nD τ) (ms0_8 m hO t) fullShare Y)
    ∗ (∃ Y, ⌜((dats m hO 0 c).toRRel marks (Rl m hO c)).Finds 9 t Y⌝ ∗ owns (c : Thread nD τ) (ms0_9 m hO t) fullShare Y)
    ∗ (∃ Y, ⌜((dats m hO 0 c).toRRel marks (Rl m hO c)).Finds 10 t Y⌝ ∗ owns (c : Thread nD τ) (ms0_10 m hO t) fullShare Y)
    ∗ (∃ Y, ⌜((dats m hO 0 c).toRRel marks (Rl m hO c)).Finds 11 t Y⌝ ∗ owns (c : Thread nD τ) (ms0_11 m hO t) fullShare Y)
    ∗ (∃ Y, ⌜((dats m hO 0 c).toRRel marks (Rl m hO c)).Finds 12 t Y⌝ ∗ owns (c : Thread nD τ) (ms0_12 m hO t) fullShare Y)
    ∗ (∃ Y, ⌜((dats m hO 0 c).toRRel marks (Rl m hO c)).Finds 13 t Y⌝ ∗ owns (c : Thread nD τ) (ms0_13 m hO t) fullShare Y)
    ∗ (∃ Y, ⌜((dats m hO 0 c).toRRel marks (Rl m hO c)).Finds 14 t Y⌝ ∗ owns (c : Thread nD τ) (ms0_14 m hO t) fullShare Y)
    ∗ (∃ Y, ⌜((dats m hO 0 c).toRRel marks (Rl m hO c)).Finds 15 t Y⌝ ∗ owns (c : Thread nD τ) (ms0_15 m hO t) fullShare Y)
    ∗ (∃ Y, ⌜((dats m hO 0 c).toRRel marks (Rl m hO c)).Finds 16 t Y⌝ ∗ owns (c : Thread nD τ) (ms0_16 m hO t) fullShare Y)
    ∗ (∃ Y, ⌜((dats m hO 0 c).toRRel marks (Rl m hO c)).Finds 17 t Y⌝ ∗ owns (c : Thread nD τ) (ms0_17 m hO t) fullShare Y)
    ∗ (∃ Y, ⌜((dats m hO 0 c).toRRel marks (Rl m hO c)).Finds 18 t Y⌝ ∗ owns (c : Thread nD τ) (ms0_18 m hO t) fullShare Y))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ (∃ X, ⌜Rl m hO c 5 t X⌝ ∗ owns (c : Thread nD τ) (ms0_5 m hO t) fullShare X)
    ∗ (∃ X, ⌜Rl m hO c 6 t X⌝ ∗ owns (c : Thread nD τ) (ms0_6 m hO t) fullShare X)
    ∗ (∃ X, ⌜Rl m hO c 7 t X⌝ ∗ owns (c : Thread nD τ) (ms0_7 m hO t) fullShare X)
    ∗ (∃ X, ⌜Rl m hO c 8 t X⌝ ∗ owns (c : Thread nD τ) (ms0_8 m hO t) fullShare X)
    ∗ (∃ X, ⌜Rl m hO c 9 t X⌝ ∗ owns (c : Thread nD τ) (ms0_9 m hO t) fullShare X)
    ∗ (∃ X, ⌜Rl m hO c 10 t X⌝ ∗ owns (c : Thread nD τ) (ms0_10 m hO t) fullShare X)
    ∗ (∃ X, ⌜Rl m hO c 11 t X⌝ ∗ owns (c : Thread nD τ) (ms0_11 m hO t) fullShare X)
    ∗ (∃ X, ⌜Rl m hO c 12 t X⌝ ∗ owns (c : Thread nD τ) (ms0_12 m hO t) fullShare X)
    ∗ (∃ X, ⌜Rl m hO c 13 t X⌝ ∗ owns (c : Thread nD τ) (ms0_13 m hO t) fullShare X)
    ∗ (∃ X, ⌜Rl m hO c 14 t X⌝ ∗ owns (c : Thread nD τ) (ms0_14 m hO t) fullShare X)
    ∗ (∃ X, ⌜Rl m hO c 15 t X⌝ ∗ owns (c : Thread nD τ) (ms0_15 m hO t) fullShare X)
    ∗ (∃ X, ⌜Rl m hO c 16 t X⌝ ∗ owns (c : Thread nD τ) (ms0_16 m hO t) fullShare X)
    ∗ (∃ X, ⌜Rl m hO c 17 t X⌝ ∗ owns (c : Thread nD τ) (ms0_17 m hO t) fullShare X)
    ∗ (∃ X, ⌜Rl m hO c 18 t X⌝ ∗ owns (c : Thread nD τ) (ms0_18 m hO t) fullShare X))

set_option maxHeartbeats 4000000 in
/-- The body at any point, by `step0`. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq, PhiA0_eq]
  iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, %h5, H5⟩, ⟨%d6, %h6, H6⟩, ⟨%d7, %h7, H7⟩, ⟨%d8, %h8, H8⟩, ⟨%d9, %h9, H9⟩, ⟨%d10, %h10, H10⟩, ⟨%d11, %h11, H11⟩, ⟨%d12, %h12, H12⟩, ⟨%d13, %h13, H13⟩, ⟨%d14, %h14, H14⟩, ⟨%d15, %h15, H15⟩, ⟨%d16, %h16, H16⟩, ⟨%d17, %h17, H17⟩, ⟨%d18, %h18, H18⟩⟩
  iapply (step0 c (grid0.coords t) _ _ _ _ _ _ _ _ _ _ _ _ _ _ _ _ _ _ _ _ _ _ _ _ _ _ _ _ _ _ _ _ _ _ _ _ _ _ _ _ _ _ _ _ _ _  (iblk m hO c 0 t) (iblk m hO c 1 t) (iblk m hO c 2 t) (iblk m hO c 3 t) (iblk m hO c 4 t) (tbl m 0) d6 d10 d11 d12 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexists _; iexact H8
  isplitl [H9]; · iexists _; iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [HS0]; · iexact HS0
  isplitl [HS1]; · iexact HS1
  isplitl [HS2]; · iexact HS2
  isplitl [HS3]; · iexact HS3
  isplitl [HT0]; · iexact HT0
  iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, HS0, HS1, HS2, HS3, HT0⟩
  isplitl [HS0 HS1 HS2 HS3 Hg HT0]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr
    swap; · iexact H5
    ipureintro; exact rfl
  isplitl [H6]
  · iexists _; isplitr
    swap; · iexact H6
    ipureintro; exact step_6 m hO c t d6 h6
  isplitl [H7]
  · iexists _; isplitr
    swap; · iexact H7
    ipureintro; exact rfl
  isplitl [H8]
  · iexists _; isplitr
    swap; · iexact H8
    ipureintro; exact rfl
  isplitl [H9]
  · iexists _; isplitr
    swap; · iexact H9
    ipureintro; exact rfl
  isplitl [H10]
  · iexists _; isplitr
    swap; · iexact H10
    ipureintro; exact step_10 m hO c t d10 h10
  isplitl [H11]
  · iexists _; isplitr
    swap; · iexact H11
    ipureintro; exact step_11 m hO c t d11 h11
  isplitl [H12]
  · iexists _; isplitr
    swap; · iexact H12
    ipureintro; exact step_12 m hO c t d12 h12
  isplitl [H13]
  · iexists _; isplitr
    swap; · iexact H13
    ipureintro; exact trivial
  isplitl [H14]
  · iexists _; isplitr
    swap; · iexact H14
    ipureintro; exact trivial
  isplitl [H15]
  · iexists _; isplitr
    swap; · iexact H15
    ipureintro; exact trivial
  isplitl [H16]
  · iexists _; isplitr
    swap; · iexact H16
    ipureintro; exact trivial
  isplitl [H17]
  · iexists _; isplitr
    swap; · iexact H17
    ipureintro; exact trivial
  iexists _; isplitr
  swap; · iexact H18
  ipureintro; exact trivial

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation at every point. -/
theorem body_obligation (hO : Ok m) (c : Dev nD) : Pipeline.BodyObligationRel (dats (F := F) m hO 0 c) (defs₀ (F := F)) Variants.none () Set.univ marks (Rl m hO c) := fun t => by
  rw [bigSep_W0, bigSep_W0, defs₀_row m hO]
  exact triple_restated (sound_body m hO c t) rfl .rfl fun _ => .rfl

/-! ## The run -/

/-- The relational data of core `c`. -/
abbrev rdat (hO : Ok m) (c : Dev nD) : Pipeline.RDat τ (Elt F) Unit ℕ (UR sig nD τ) ℕ (cfgM m hO) c := (dats m hO 0 c).toRRel marks (Rl m hO c)

set_option backward.isDefEq.respectTransparency.types false in
/-- Every execution terminates; each array ends as the blocks written back to it say, every other buffer as it was, and every
    semaphore counter at zero. -/
theorem run_main_quiescent (hO : Ok m) : θ_run defs (onTc (τ := τ) (main (F := F))) (s₀ m ρ) (fun r => (Pipeline.RDat.FramePost ((Pipeline.pin pcfgs fun _ => adm m hO) 0) (rdat m hO) (V m)) r ∧ r.2.sem = fun _ => 0) :=
  Pipeline.RDat.θ_run_frameP (Q' := _) pcfgs (fun _ => adm m hO) (0 : Fin 1) launch0 defs₀ Variants.none (rdat m hO) m ρ main
    (hbody := fun c => (body_obligation m hO c).toRRel) (hshare := fun c => (dats m hO 0 c).share_full fun _ => rfl)
    (howed := fun _ _ => rfl) (V := V m) (hmain := hmain m Variants.none) (hA := A_eq m hO) (hpf := V_pre m) (hΦ := fun _ _ => rfl)

/-- `run_main_quiescent` without the counters. -/
theorem run_main (hO : Ok m) : θ_run defs (onTc (τ := τ) (main (F := F))) (s₀ m ρ) (Pipeline.RDat.FramePost ((Pipeline.pin pcfgs fun _ => adm m hO) 0) (rdat m hO) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (rdat m hO) (A_eq m hO) (run_main m ρ hO)

/-- The frame: the argument arrays end unchanged and every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.ProjIdeal.Hand

end
-- ==== Proof.Value.Result.lean ====
module

public import proofs.«01_k».proof.Proof.Value.Spec

/-! The eight results, as functions of the arguments and of how a token's scale and factor follow from its largest
magnitude. -/

@[expose] public section

noncomputable section

namespace Cert.Value

open Idealize.ShloMosaic

variable (A : Args) (sc inv : EReal → EReal)

/-- The codes. -/
def resCodes : FVec Ideal ⟨3, ![8, 2048, 3840]⟩ .fp8e4m3 := fun y => A.code inv (y 0) (y 1) (y 2)
/-- The scales of the tokens. -/
def resXs : FVec Ideal ⟨2, ![8, 2048]⟩ .f32 := fun y => sc (A.amax (y 0) (y 1))
/-- The rotated query heads, one token per column. -/
def resQ : FVec Ideal ⟨4, ![8, 30, 128, 2048]⟩ .bf16 := fun y => A.rot sc inv ⟨(y 1).val, lt_of_lt_of_le (b := 30) (y 1).isLt (by decide)⟩ (y 0) (y 3) (y 2)
/-- The rotated key heads, one token per row. -/
def resK : FVec Ideal ⟨4, ![8, 6, 2048, 128]⟩ .bf16 := fun y => A.rot sc inv ⟨30 + (y 1).val, Nat.lt_of_lt_of_le (Nat.add_lt_add_left (m := 6) (y 1).isLt 30) (by decide)⟩ (y 0) (y 2) (y 3)
/-- The value heads, one token per column. -/
def resV : FVec Ideal ⟨4, ![8, 6, 128, 2048]⟩ .bf16 := fun y => A.head sc inv ⟨36 + (y 1).val, Nat.lt_of_lt_of_le (Nat.add_lt_add_left (m := 6) (y 1).isLt 36) (by decide)⟩ (y 0) (y 3) (y 2)
/-- The largest magnitudes, head by head and token by token. -/
def resRq : FVec Ideal ⟨3, ![30, 8, 2048]⟩ .f32 := fun y => A.rowRot sc inv ⟨(y 0).val, lt_of_lt_of_le (b := 30) (y 0).isLt (by decide)⟩ (y 1) (y 2)
def resRk : FVec Ideal ⟨3, ![6, 8, 2048]⟩ .f32 := fun y => A.rowRot sc inv ⟨30 + (y 0).val, Nat.lt_of_lt_of_le (Nat.add_lt_add_left (m := 6) (y 0).isLt 30) (by decide)⟩ (y 1) (y 2)
def resRv : FVec Ideal ⟨3, ![6, 8, 2048]⟩ .f32 := fun y => A.rowHead sc inv ⟨36 + (y 0).val, Nat.lt_of_lt_of_le (Nat.add_lt_add_left (m := 6) (y 0).isLt 36) (by decide)⟩ (y 1) (y 2)

end Cert.Value
end
-- ==== Proof.ProjI.Inputs.lean ====
module

public import proofs.«01_k».proof.Proof.ProjI.Stores
public import proofs.«01_k».proof.Proof.ProjI.Frame
public import proofs.«01_k».proof.Proof.Value.Result
public import Idealize.ShloMosaic.Lib.Pipeline.ValueKit.Geometry
public import Idealize.ShloMosaic.Lib.StableHlo.ReadAt
public import Idealize.ShloMosaic.Lib.Pointwise

/-! What the blocks of the projection kernel's grid points hold, in terms of the arguments. -/

@[expose] public section

set_option maxRecDepth 16384
set_option maxHeartbeats 4000000

noncomputable section

namespace Cert.ProjIdeal.Hand

open Cert.ProjIdeal.Gen Cert.Value
open Idealize.ShloMosaic Idealize.ShloMosaic.TcCoe Idealize.ShloMosaic.Tactic
open Idealize.ShloMosaic.Pipeline (Dat Cfg Window)

variable (m : (ℓ : Loc nD τ sig) → Buf (Elt Ideal) ℓ) (hO : Hand.Ok m)

/-- The arguments on core `c`. -/
def argsOf (c : Dev nD) : Args where
  x := m ((c.tc : Thread nD τ).loc main_arg0)
  w := m ((c.tc : Thread nD τ).loc main_arg1)
  ws := m ((c.tc : Thread nD τ).loc main_arg2)
  bi := m ((c.tc : Thread nD τ).loc main_arg3)
  pos := m ((c.tc : Thread nD τ).loc main_arg4)

theorem tr_fixed2 : ∀ t : Fin grid0.N, cc0_transform_0 (grid0.coords t) = ![0, 0] ∧ cc0_transform_2 (grid0.coords t) = ![0, 0]
    ∧ cc0_transform_3 (grid0.coords t) = ![0, 0] ∧ cc0_transform_4 (grid0.coords t) = ![0, 0] := by decide +kernel
theorem tr_1 : ∀ t : Fin grid0.N, cc0_transform_1 (grid0.coords t) = ![t.val % 8, t.val / 8, 0] := by decide +kernel
theorem tr_5 : ∀ t : Fin grid0.N, cc0_transform_5 (grid0.coords t) = ![t.val % 8, t.val / 8, 0] := by decide +kernel
theorem tr_6 : ∀ t : Fin grid0.N, cc0_transform_6 (grid0.coords t) = ![0, t.val / 8] := by decide +kernel
theorem tr_7 : ∀ t : Fin grid0.N, cc0_transform_7 (grid0.coords t) = ![t.val % 8, 0, 0, t.val / 8] := by decide +kernel
theorem tr_8 : ∀ t : Fin grid0.N, cc0_transform_8 (grid0.coords t) = ![t.val % 8, 0, t.val / 8, 0] := by decide +kernel
theorem tr_9 : ∀ t : Fin grid0.N, cc0_transform_9 (grid0.coords t) = ![t.val % 8, 0, 0, t.val / 8] := by decide +kernel
theorem tr_10 : ∀ t : Fin grid0.N, cc0_transform_10 (grid0.coords t) = ![0, 0, t.val / 8] := by decide +kernel
theorem tr_11 : ∀ t : Fin grid0.N, cc0_transform_11 (grid0.coords t) = ![0, 0, t.val / 8] := by decide +kernel
theorem tr_12 : ∀ t : Fin grid0.N, cc0_transform_12 (grid0.coords t) = ![0, 0, t.val / 8] := by decide +kernel

/-- The batch and the token of a grid point. -/
def bAt (t : Fin grid0.N) : Fin 8 := ⟨t.val % 8, Nat.mod_lt _ (by decide)⟩
def sAt (t : Fin grid0.N) (l : Fin 512) : Fin 2048 := ⟨512 * (t.val / 8) + l.val, by have h : t.val < 32 := t.isLt; omega⟩

/-- The blocks the body is handed, at their shapes. -/
abbrev b0 (c : Dev nD) (t : Fin grid0.N) : Vec Ideal S64x128 .f32 := iblk m hO c 0 t
abbrev b1 (c : Dev nD) (t : Fin grid0.N) : Vec Ideal S1x512x3840 .bf16 := iblk m hO c 1 t
abbrev b2 (c : Dev nD) (t : Fin grid0.N) : Vec Ideal S3840x5376 .fp8e4m3 := iblk m hO c 2 t
abbrev b3 (c : Dev nD) (t : Fin grid0.N) : Vec Ideal S1x5376 .f32 := iblk m hO c 3 t
abbrev b4 (c : Dev nD) (t : Fin grid0.N) : Vec Ideal S1x5376 .f32 := iblk m hO c 4 t
theorem b1_at (c : Dev nD) (t : Fin grid0.N) (r : Fin 512) (d : Fin 3840) :
    b1 m hO c t (ix3 (0 : Fin 1) r d) = (argsOf m c).x (ix3 (bAt t) (sAt t r) d) := by
  have e1 : ∀ t : Fin grid0.N, ((cfgM m hO).win 1).index t = ![t.val % 8, t.val / 8, 0] := fun t => tr_1 t
  show V m c main_arg0 ((((cfgM m hO).win 1).blk t).view.emb (ix3 (0 : Fin 1) r d)) = _
  rw [V_main_arg0]
  show m ((c.tc : Thread nD τ).loc main_arg0) _ = m ((c.tc : Thread nD τ).loc main_arg0) _
  refine congrArg _ ?_
  unfold bAt sAt
  blk_ext [e1]
theorem b2_at (c : Dev nD) (t : Fin grid0.N) (d : Fin 3840) (e : Fin 5376) :
    b2 m hO c t (ix2 d e) = (argsOf m c).w (ix2 d e) := by
  have e1 : ∀ t : Fin grid0.N, ((cfgM m hO).win 2).index t = ![0, 0] := fun t => (tr_fixed2 t).2.1
  show V m c main_arg1 ((((cfgM m hO).win 2).blk t).view.emb (ix2 d e)) = _
  rw [V_main_arg1]
  show m ((c.tc : Thread nD τ).loc main_arg1) _ = m ((c.tc : Thread nD τ).loc main_arg1) _
  refine congrArg _ ?_
  blk_ext [e1]
theorem v10_after (W : Valuation τ sig (Elt Ideal)) (e : Fin 5376) :
    StableHlo.after hostOps0 W (Proc.devRef .tc main_v10) (ix2 (0 : Fin 1) e) = W (Proc.devRef .tc main_arg2) (ix1 e) := by
  after_reads_at
theorem v10_at (c : Dev nD) (e : Fin 5376) : V m c main_v10 (ix2 (0 : Fin 1) e) = m ((c.tc : Thread nD τ).loc main_arg2) (ix1 e) :=
  v10_after _ e
theorem v11_after (W : Valuation τ sig (Elt Ideal)) (e : Fin 5376) :
    StableHlo.after hostOps0 W (Proc.devRef .tc main_v11) (ix2 (0 : Fin 1) e) = W (Proc.devRef .tc main_arg3) (ix1 e) := by
  after_reads_at
theorem v11_at (c : Dev nD) (e : Fin 5376) : V m c main_v11 (ix2 (0 : Fin 1) e) = m ((c.tc : Thread nD τ).loc main_arg3) (ix1 e) :=
  v11_after _ e
theorem b3_at (c : Dev nD) (t : Fin grid0.N) (e : Fin 5376) :
    b3 m hO c t (ix2 (0 : Fin 1) e) = (argsOf m c).ws (ix1 e) := by
  have e1 : ∀ t : Fin grid0.N, ((cfgM m hO).win 3).index t = ![0, 0] := fun t => (tr_fixed2 t).2.2.1
  refine Eq.trans ?_ (v10_at m c e)
  show V m c main_v10 ((((cfgM m hO).win 3).blk t).view.emb (ix2 (0 : Fin 1) e)) = _
  refine congrArg _ ?_
  blk_ext [e1]
theorem b4_at (c : Dev nD) (t : Fin grid0.N) (e : Fin 5376) :
    b4 m hO c t (ix2 (0 : Fin 1) e) = (argsOf m c).bi (ix1 e) := by
  have e1 : ∀ t : Fin grid0.N, ((cfgM m hO).win 4).index t = ![0, 0] := fun t => (tr_fixed2 t).2.2.2
  refine Eq.trans ?_ (v11_at m c e)
  show V m c main_v11 ((((cfgM m hO).win 4).blk t).view.emb (ix2 (0 : Fin 1) e)) = _
  refine congrArg _ ?_
  blk_ext [e1]
theorem v9_after (W : Valuation τ sig (Elt Ideal)) (j : Fin 64) :
    StableHlo.after hostOps0 W (Proc.devRef .tc main_v9) (ix2 j (0 : Fin 128)) = freq j.val := by
  after_reads_at
  rfl
theorem v9_at (c : Dev nD) (j : Fin 64) : V m c main_v9 (ix2 j (0 : Fin 128)) = freq j.val :=
  v9_after _ j
theorem b0_at (c : Dev nD) (t : Fin grid0.N) (j : Fin 64) :
    b0 m hO c t (ix2 j (0 : Fin 128)) = freq j.val := by
  have e1 : ∀ t : Fin grid0.N, ((cfgM m hO).win 0).index t = ![0, 0] := fun t => (tr_fixed2 t).1
  refine Eq.trans ?_ (v9_at m c j)
  show V m c main_v9 ((((cfgM m hO).win 0).blk t).view.emb (ix2 j (0 : Fin 128))) = _
  refine congrArg _ ?_
  blk_ext [e1]
/-- The sequence's first position. -/
theorem posAt_eq (c : Dev nD) (t : Fin grid0.N) : posAt m c t = (argsOf m c).pos (ix1 (bAt t)) := by
  obtain rfl : c = 0 := Subsingleton.elim _ _
  have hk : ∀ t : Fin grid0.N, k0_off1 (grid0.coords t) = ![t.val % 8] := by decide +kernel
  unfold posAt posW kernelRun0.sl.r_20
  show V m 0 main_arg4 ((Rect.unit (s := S8) (k0_off1 (grid0.coords t)) S1.size _).toLoadRect.idx (Shape.Idx.first _)) = _
  rw [V_main_arg4]
  show m ((0 : Dev nD).tc.loc main_arg4) _ = m ((0 : Dev nD).tc.loc main_arg4) _
  refine congrArg _ ?_
  funext a; refine Fin.ext ?_; fin_cases a
  exact Eq.trans (b := k0_off1 (grid0.coords t) 0) rfl (congrFun (hk t) 0)
theorem bmax_eq (c : Dev nD) (t : Fin grid0.N) (r : Fin 512) : bmax (b1 m hO c t) r = (argsOf m c).amax (bAt t) (sAt t r) := by
  unfold bmax Args.amax
  refine iSup_congr fun d => ?_
  rw [b1_at]

theorem headE_of (x1 : Vec Ideal S1x512x3840 .bf16) (x2 : Vec Ideal S3840x5376 .fp8e4m3) (x3 x4 : Vec Ideal S1x5376 .f32) (l : Fin 512) (e : Fin 5376)
    (f g : Fin 3840 → EReal) (a p q : EReal) (hf : ∀ d, x1 (ix3 (0 : Fin 1) l d) = f d) (hg : ∀ d, x2 (ix2 d e) = g d) (ha : bmax x1 l = a)
    (h3 : x3 (ix2 (0 : Fin 1) e) = p) (h4 : x4 (ix2 (0 : Fin 1) e) = q) :
    headE x1 x2 x3 x4 l e = (∑ d, clip (f d * kerInv a) * g d) * (kerXs a * p) + q := by
  have hf' := funext hf
  have hg' := funext hg
  subst hf' hg' ha h3 h4
  rfl

/-- A head's entry is the specification's. -/
theorem hE_eq (c : Dev nD) (t : Fin grid0.N) (n : Fin 42) (l : Fin 512) (j : Fin 128) :
    hE (b1 m hO c t) (b2 m hO c t) (b3 m hO c t) (b4 m hO c t) n l j = (argsOf m c).head kerXs kerInv n (bAt t) (sAt t l) j := by
  unfold hE
  refine (headE_of _ _ _ _ l _ _ _ _ _ _ (fun d => b1_at m hO c t l d) (fun d => b2_at m hO c t d _) (bmax_eq m hO c t l) (b3_at m hO c t _) (b4_at m hO c t _)).trans ?_
  rfl
theorem word_eq (p : BitVec 32) (a l : ℕ) :
    IntOp.addi (Scalar.addi p (Scalar.muli (BitVec.ofNat 32 a) 512#32)) (BitVec.ofNat 32 l) = IntOp.addi p (BitVec.ofNat 32 (512 * a + l)) := by
  show p + BitVec.ofNat 32 a * 512#32 + BitVec.ofNat 32 l = p + BitVec.ofNat 32 (512 * a + l)
  rw [BitVec.ofNat_add, BitVec.ofNat_mul, BitVec.add_assoc, BitVec.mul_comm]

/-- The angle is the specification's. -/
theorem angleE_eq (c : Dev nD) (t : Fin grid0.N) (j : Fin 64) (l : Fin 512) :
    angleE (grid0.coords t) (posAt m c t) (b0 m hO c t) j l = (argsOf m c).angle (bAt t) (sAt t l) j.val := by
  unfold angleE Args.angle
  rw [b0_at, word_eq, posAt_eq, coords_zero]
  rfl

/-- A rotated head's entry is the specification's. -/
theorem rE_eq (c : Dev nD) (t : Fin grid0.N) (n : Fin 42) (l : Fin 512) (j : Fin 128) :
    rE (grid0.coords t) (posAt m c t) (b0 m hO c t) (b1 m hO c t) (b2 m hO c t) (b3 m hO c t) (b4 m hO c t) n l j
      = (argsOf m c).rot kerXs kerInv n (bAt t) (sAt t l) j := by
  by_cases h : j.val < 64
  · rw [Args.rot_lo _ _ _ _ _ _ _ h]
    unfold rE
    rw [dif_pos h, hE_eq, hE_eq, angleE_eq]
  · rw [Args.rot_hi _ _ _ _ _ _ _ h]
    unfold rE
    rw [dif_neg h, hE_eq, hE_eq, angleE_eq]
end Cert.ProjIdeal.Hand
end
-- ==== Proof.ProjI.Covers.lean ====
module

public import proofs.«01_k».proof.Proof.ProjI.Inputs

/-! The blocks that the projection kernel writes back cover their arrays. -/

@[expose] public section

set_option maxRecDepth 16384
set_option maxHeartbeats 4000000

noncomputable section

namespace Cert.ProjIdeal.Hand

open Cert.ProjIdeal.Gen Cert.Value
open Idealize.ShloMosaic Idealize.ShloMosaic.TcCoe Idealize.ShloMosaic.Tactic
open Idealize.ShloMosaic.Pipeline (Dat Cfg Window)

theorem ok_all (m : (ℓ : Loc nD τ sig) → Buf (Elt Ideal) ℓ) : Hand.Ok m := trivial
/-- Some table: no window's place depends on it. -/
noncomputable def someTable : pre0.Contents (Elt Ideal) := fun j => match (j : Fin 1) with
  | ⟨0, _⟩ => (fun _ => (0#32 : BitVec 32) : Vec Ideal S8 .i32)
abbrev someAdm : (pcfg0 (F := Ideal)).Adm := ⟨someTable, trivial⟩
theorem some5 : ((cfg0 someAdm).win 5).Covers :=
  by decide +kernel
theorem cov5 (m : (ℓ : Loc nD τ sig) → Buf (Elt Ideal) ℓ) (hO : Hand.Ok m) : ((cfgM m hO).win 5).Covers :=
  some5
theorem some6 : ((cfg0 someAdm).win 6).Covers :=
  by decide +kernel
theorem cov6 (m : (ℓ : Loc nD τ sig) → Buf (Elt Ideal) ℓ) (hO : Hand.Ok m) : ((cfgM m hO).win 6).Covers :=
  some6
theorem some7 : ((cfg0 someAdm).win 7).Covers :=
  by decide +kernel
theorem cov7 (m : (ℓ : Loc nD τ sig) → Buf (Elt Ideal) ℓ) (hO : Hand.Ok m) : ((cfgM m hO).win 7).Covers :=
  some7
theorem some8 : ((cfg0 someAdm).win 8).Covers :=
  by decide +kernel
theorem cov8 (m : (ℓ : Loc nD τ sig) → Buf (Elt Ideal) ℓ) (hO : Hand.Ok m) : ((cfgM m hO).win 8).Covers :=
  some8
theorem some9 : ((cfg0 someAdm).win 9).Covers :=
  by decide +kernel
theorem cov9 (m : (ℓ : Loc nD τ sig) → Buf (Elt Ideal) ℓ) (hO : Hand.Ok m) : ((cfgM m hO).win 9).Covers :=
  some9
theorem some10 : ((cfg0 someAdm).win 10).Covers :=
  by decide +kernel
theorem cov10 (m : (ℓ : Loc nD τ sig) → Buf (Elt Ideal) ℓ) (hO : Hand.Ok m) : ((cfgM m hO).win 10).Covers :=
  some10
theorem some11 : ((cfg0 someAdm).win 11).Covers :=
  by decide +kernel
theorem cov11 (m : (ℓ : Loc nD τ sig) → Buf (Elt Ideal) ℓ) (hO : Hand.Ok m) : ((cfgM m hO).win 11).Covers :=
  some11
theorem some12 : ((cfg0 someAdm).win 12).Covers :=
  by decide +kernel
theorem cov12 (m : (ℓ : Loc nD τ sig) → Buf (Elt Ideal) ℓ) (hO : Hand.Ok m) : ((cfgM m hO).win 12).Covers :=
  some12
end Cert.ProjIdeal.Hand
end
-- ==== Proof.ProjI.Arrays.lean ====
module

public import proofs.«01_k».proof.Proof.ProjI.Covers
public import Idealize.ShloMosaic.Lib.Pipeline.ArrRel

/-! What the projection kernel's output arrays hold at the end, given what the body may have left in each block. -/

@[expose] public section

set_option maxRecDepth 16384
set_option maxHeartbeats 4000000

noncomputable section

namespace Cert.ProjIdeal.Hand

open Cert.ProjIdeal.Gen Cert.Value
open Idealize.ShloMosaic Idealize.ShloMosaic.TcCoe Idealize.ShloMosaic.Tactic
open Idealize.ShloMosaic.Pipeline (Dat Cfg Window)

variable (m : (ℓ : Loc nD τ sig) → Buf (Elt Ideal) ℓ) (hO : Hand.Ok m) (c : Dev nD)
variable (after : (w' : Fin (cfgM m hO).W) → Fin (cfgM m hO).N → ((cfgM m hO).win w').block.Idx → Elt Ideal ((cfgM m hO).win w').elt)

/-- An index is the tuple of its coordinates. -/
theorem ex2 {a b : ℕ} (y : (⟨2, ![a, b]⟩ : Shape).Idx) : ∃ (i : Fin a) (j : Fin b), y = ix2 i j := ⟨y 0, y 1, (ix2_eta y).symm⟩
theorem ex3 {a b c : ℕ} (y : (⟨3, ![a, b, c]⟩ : Shape).Idx) : ∃ (i : Fin a) (j : Fin b) (k : Fin c), y = ix3 i j k := ⟨y 0, y 1, y 2, (ix3_eta y).symm⟩
theorem ex4 {a b c d : ℕ} (y : (⟨4, ![a, b, c, d]⟩ : Shape).Idx) : ∃ (i : Fin a) (j : Fin b) (k : Fin c) (l : Fin d), y = ix4 i j k l := ⟨y 0, y 1, y 2, y 3, (ix4_eta y).symm⟩
/-- The point of the same tile whose batch is `b`. -/
def rowPt (t : Fin grid0.N) (b : Fin 8) : Fin grid0.N := ⟨8 * (t.val / 8) + b.val, by have h : t.val < 32 := t.isLt; show _ < 32; omega⟩
theorem bAt_rowPt (t : Fin grid0.N) (b : Fin 8) : bAt (rowPt t b) = b := by
  refine Fin.ext ?_
  show (8 * (t.val / 8) + b.val) % 8 = b.val
  omega
theorem sAt_rowPt (t : Fin grid0.N) (b : Fin 8) (l : Fin 512) : sAt (rowPt t b) l = sAt t l := by
  refine Fin.ext ?_
  show 512 * ((8 * (t.val / 8) + b.val) / 8) + l.val = 512 * (t.val / 8) + l.val
  omega
/-- At the last point of a tile every row of a block is the one its own point wrote. -/
theorem rows_at {ι V : Type} (new : Fin grid0.N → (ι → V) → ι → V) (row : ι → ℕ) (t : Fin grid0.N) (X : ι → V)
    (h : RowsAt new row t X) (ht : t.val % 8 = 7) (b : Fin 8) (y : ι) (hy : row y = b.val) : X y = new (rowPt t b) X y := by
  refine h (rowPt t b) ?_ ?_ X y ?_
  · show (8 * (t.val / 8) + b.val) / 8 = t.val / 8
    omega
  · show 8 * (t.val / 8) + b.val ≤ t.val
    omega
  · rw [hy]
    show b.val = (8 * (t.val / 8) + b.val) % 8
    omega
theorem row_coord (t : Fin grid0.N) (b : Fin 8) : b.val = (grid0.coords (rowPt t b) 1).val := by
  rw [coords_one]
  show b.val = (8 * (t.val / 8) + b.val) % 8
  omega

/-- The codes' array. -/
theorem arr5 (hl : ∀ u, ((cfgM m hO).win 5).flush u = true → Rl m hO c 5 u (after 5 u)) :
    ((rdat m hO c).withAfter after).arrAt 5 (cfgM m hO).N = resCodes (argsOf m c) kerInv := by
  have e : ∀ t : Fin grid0.N, ((cfgM m hO).win 5).index t = ![t.val % 8, t.val / 8, 0] := fun t => tr_5 t
  refine Dat.arrAt_eq_of_covers _ 5 _ (cov5 m hO) fun t hf y => ?_
  blk_simp [e]
  have h : after 5 t = codesB (b1 m hO c t) := hl t hf
  obtain ⟨z, r, d, rfl⟩ := ex3 (a := 1) (b := 512) (c := 3840) y
  obtain rfl : z = 0 := Subsingleton.elim _ _
  have he : (((cfgM m hO).win 5).blk t).view.emb (ix3 (0 : Fin 1) r d) = ix3 (bAt t) (sAt t r) d := by
    unfold bAt sAt
    blk_ext [e]
  refine (congrFun h (ix3 (0 : Fin 1) r d)).trans ?_
  refine Eq.trans ?_ (congrArg (resCodes (argsOf m c) kerInv) he.symm)
  rw [codesB_at, b1_at, bmax_eq]
  rfl
/-- The scales' array. -/
theorem arr6 (h0 : ∀ b s, 0 ≤ kerXs ((argsOf m c).amax b s)) (hl : ∀ u, ((cfgM m hO).win 6).flush u = true → Rl m hO c 6 u (after 6 u)) :
    ((rdat m hO c).withAfter after).arrAt 6 (cfgM m hO).N = resXs (argsOf m c) kerXs := by
  have e : ∀ t : Fin grid0.N, ((cfgM m hO).win 6).index t = ![0, t.val / 8] := fun t => tr_6 t
  refine Dat.arrAt_eq_of_covers _ 6 _ (cov6 m hO) fun t hf y => ?_
  blk_simp [e]
  have h : RowsAt (xsAt m hO c) (fun y : S8x512.Idx => (y 0).val) t (after 6 t) := hl t hf
  have ht : t.val % 8 = 7 := (flush0_6 (adm m hO) t).mp hf
  obtain ⟨b, l, rfl⟩ := ex2 (a := 8) (b := 512) y
  have he : (((cfgM m hO).win 6).blk t).view.emb (ix2 b l) = ix2 b (sAt t l) := by
    unfold sAt
    blk_ext [e]
  refine (rows_at _ _ t _ h ht b (ix2 b l) rfl).trans ?_
  refine Eq.trans ?_ (congrArg (resXs (argsOf m c) kerXs) he.symm)
  have hb : bmax (b1 m hO c (rowPt t b)) l = (argsOf m c).amax b (sAt t l) := by rw [bmax_eq, bAt_rowPt, sAt_rowPt]
  refine (xsNew_at _ (b1 m hO c (rowPt t b)) _ b l (row_coord t b) (by rw [hb]; exact h0 _ _)).trans ?_
  rw [hb]
  rfl
/-- The query heads' array. -/
theorem arr7 (hl : ∀ u, ((cfgM m hO).win 7).flush u = true → Rl m hO c 7 u (after 7 u)) :
    ((rdat m hO c).withAfter after).arrAt 7 (cfgM m hO).N = resQ (argsOf m c) kerXs kerInv := by
  have e : ∀ t : Fin grid0.N, ((cfgM m hO).win 7).index t = ![t.val % 8, 0, 0, t.val / 8] := fun t => tr_7 t
  refine Dat.arrAt_eq_of_covers _ 7 _ (cov7 m hO) fun t hf y => ?_
  blk_simp [e]
  have h : after 7 t = qB (grid0.coords t) (posAt m c t) (b0 m hO c t) (b1 m hO c t) (b2 m hO c t) (b3 m hO c t) (b4 m hO c t) := hl t hf
  obtain ⟨z, n, j, l, rfl⟩ := ex4 (a := 1) (b := 30) (c := 128) (d := 512) y
  obtain rfl : z = 0 := Subsingleton.elim _ _
  have he : (((cfgM m hO).win 7).blk t).view.emb (ix4 (0 : Fin 1) n j l) = ix4 (bAt t) n j (sAt t l) := by
    unfold bAt sAt
    blk_ext [e]
  refine (congrFun h (ix4 (0 : Fin 1) n j l)).trans ?_
  refine Eq.trans ?_ (congrArg (resQ (argsOf m c) kerXs kerInv) he.symm)
  refine (qB_at _ _ _ _ _ _ _ _).trans ?_
  exact rE_eq m hO c t (qHead n) l j
/-- The key heads' array. -/
theorem arr8 (hl : ∀ u, ((cfgM m hO).win 8).flush u = true → Rl m hO c 8 u (after 8 u)) :
    ((rdat m hO c).withAfter after).arrAt 8 (cfgM m hO).N = resK (argsOf m c) kerXs kerInv := by
  have e : ∀ t : Fin grid0.N, ((cfgM m hO).win 8).index t = ![t.val % 8, 0, t.val / 8, 0] := fun t => tr_8 t
  refine Dat.arrAt_eq_of_covers _ 8 _ (cov8 m hO) fun t hf y => ?_
  blk_simp [e]
  have h : after 8 t = kB (grid0.coords t) (posAt m c t) (b0 m hO c t) (b1 m hO c t) (b2 m hO c t) (b3 m hO c t) (b4 m hO c t) := hl t hf
  obtain ⟨z, n, l, j, rfl⟩ := ex4 (a := 1) (b := 6) (c := 512) (d := 128) y
  obtain rfl : z = 0 := Subsingleton.elim _ _
  have he : (((cfgM m hO).win 8).blk t).view.emb (ix4 (0 : Fin 1) n l j) = ix4 (bAt t) n (sAt t l) j := by
    unfold bAt sAt
    blk_ext [e]
  refine (congrFun h (ix4 (0 : Fin 1) n l j)).trans ?_
  refine Eq.trans ?_ (congrArg (resK (argsOf m c) kerXs kerInv) he.symm)
  refine (kB_at _ _ _ _ _ _ _ _).trans ?_
  exact rE_eq m hO c t (kHead n) l j
/-- The value heads' array. -/
theorem arr9 (hl : ∀ u, ((cfgM m hO).win 9).flush u = true → Rl m hO c 9 u (after 9 u)) :
    ((rdat m hO c).withAfter after).arrAt 9 (cfgM m hO).N = resV (argsOf m c) kerXs kerInv := by
  have e : ∀ t : Fin grid0.N, ((cfgM m hO).win 9).index t = ![t.val % 8, 0, 0, t.val / 8] := fun t => tr_9 t
  refine Dat.arrAt_eq_of_covers _ 9 _ (cov9 m hO) fun t hf y => ?_
  blk_simp [e]
  have h : after 9 t = vB (b1 m hO c t) (b2 m hO c t) (b3 m hO c t) (b4 m hO c t) := hl t hf
  obtain ⟨z, n, j, l, rfl⟩ := ex4 (a := 1) (b := 6) (c := 128) (d := 512) y
  obtain rfl : z = 0 := Subsingleton.elim _ _
  have he : (((cfgM m hO).win 9).blk t).view.emb (ix4 (0 : Fin 1) n j l) = ix4 (bAt t) n j (sAt t l) := by
    unfold bAt sAt
    blk_ext [e]
  refine (congrFun h (ix4 (0 : Fin 1) n j l)).trans ?_
  refine Eq.trans ?_ (congrArg (resV (argsOf m c) kerXs kerInv) he.symm)
  refine (vB_at _ _ _ _ _).trans ?_
  exact hE_eq m hO c t (vHead n) l j
/-- The array of the query heads' largest magnitudes. -/
theorem arr10 (hl : ∀ u, ((cfgM m hO).win 10).flush u = true → Rl m hO c 10 u (after 10 u)) :
    ((rdat m hO c).withAfter after).arrAt 10 (cfgM m hO).N = resRq (argsOf m c) kerXs kerInv := by
  have e : ∀ t : Fin grid0.N, ((cfgM m hO).win 10).index t = ![0, 0, t.val / 8] := fun t => tr_10 t
  refine Dat.arrAt_eq_of_covers _ 10 _ (cov10 m hO) fun t hf y => ?_
  blk_simp [e]
  have h : RowsAt (rqAt m hO c) (fun y : S30x8x512.Idx => (y 1).val) t (after 10 t) := hl t hf
  have ht : t.val % 8 = 7 := (flush0_10 (adm m hO) t).mp hf
  obtain ⟨n, b, l, rfl⟩ := ex3 (a := 30) (b := 8) (c := 512) y
  have he : (((cfgM m hO).win 10).blk t).view.emb (ix3 n b l) = ix3 n b (sAt t l) := by
    unfold sAt
    blk_ext [e]
  refine (rows_at _ _ t _ h ht b (ix3 n b l) rfl).trans ?_
  refine Eq.trans ?_ (congrArg (resRq (argsOf m c) kerXs kerInv) he.symm)
  refine (rowsQ_at _ _ _ _ _ _ _ _ n b l (row_coord t b)).trans ?_
  refine iSup_congr fun j => congrArg mag ?_
  refine (rE_eq m hO c (rowPt t b) (qHead n) l j).trans ?_
  rw [bAt_rowPt, sAt_rowPt]
  rfl
/-- The array of the key heads' largest magnitudes. -/
theorem arr11 (hl : ∀ u, ((cfgM m hO).win 11).flush u = true → Rl m hO c 11 u (after 11 u)) :
    ((rdat m hO c).withAfter after).arrAt 11 (cfgM m hO).N = resRk (argsOf m c) kerXs kerInv := by
  have e : ∀ t : Fin grid0.N, ((cfgM m hO).win 11).index t = ![0, 0, t.val / 8] := fun t => tr_11 t
  refine Dat.arrAt_eq_of_covers _ 11 _ (cov11 m hO) fun t hf y => ?_
  blk_simp [e]
  have h : RowsAt (rkAt m hO c) (fun y : S6x8x512.Idx => (y 1).val) t (after 11 t) := hl t hf
  have ht : t.val % 8 = 7 := (flush0_11 (adm m hO) t).mp hf
  obtain ⟨n, b, l, rfl⟩ := ex3 (a := 6) (b := 8) (c := 512) y
  have he : (((cfgM m hO).win 11).blk t).view.emb (ix3 n b l) = ix3 n b (sAt t l) := by
    unfold sAt
    blk_ext [e]
  refine (rows_at _ _ t _ h ht b (ix3 n b l) rfl).trans ?_
  refine Eq.trans ?_ (congrArg (resRk (argsOf m c) kerXs kerInv) he.symm)
  refine (rowsK_at _ _ _ _ _ _ _ _ n b l (row_coord t b)).trans ?_
  refine iSup_congr fun j => congrArg mag ?_
  refine (rE_eq m hO c (rowPt t b) (kHead n) l j).trans ?_
  rw [bAt_rowPt, sAt_rowPt]
  rfl
/-- The array of the value heads' largest magnitudes. -/
theorem arr12 (hl : ∀ u, ((cfgM m hO).win 12).flush u = true → Rl m hO c 12 u (after 12 u)) :
    ((rdat m hO c).withAfter after).arrAt 12 (cfgM m hO).N = resRv (argsOf m c) kerXs kerInv := by
  have e : ∀ t : Fin grid0.N, ((cfgM m hO).win 12).index t = ![0, 0, t.val / 8] := fun t => tr_12 t
  refine Dat.arrAt_eq_of_covers _ 12 _ (cov12 m hO) fun t hf y => ?_
  blk_simp [e]
  have h : RowsAt (rvAt m hO c) (fun y : S6x8x512.Idx => (y 1).val) t (after 12 t) := hl t hf
  have ht : t.val % 8 = 7 := (flush0_12 (adm m hO) t).mp hf
  obtain ⟨n, b, l, rfl⟩ := ex3 (a := 6) (b := 8) (c := 512) y
  have he : (((cfgM m hO).win 12).blk t).view.emb (ix3 n b l) = ix3 n b (sAt t l) := by
    unfold sAt
    blk_ext [e]
  refine (rows_at _ _ t _ h ht b (ix3 n b l) rfl).trans ?_
  refine Eq.trans ?_ (congrArg (resRv (argsOf m c) kerXs kerInv) he.symm)
  refine (rowsV_at _ _ _ _ _ _ n b l (row_coord t b)).trans ?_
  refine iSup_congr fun j => congrArg mag ?_
  refine (hE_eq m hO c (rowPt t b) (vHead n) l j).trans ?_
  rw [bAt_rowPt, sAt_rowPt]
  rfl
end Cert.ProjIdeal.Hand
end
-- ==== Proof.ProjI.Results.lean ====
module

public import proofs.«01_k».proof.Proof.ProjI.Arrays

/-! The projection kernel's run: what the results hold when it ends. -/

@[expose] public section

set_option maxRecDepth 16384
set_option maxHeartbeats 4000000

noncomputable section

namespace Cert.ProjIdeal.Hand

open Cert.ProjIdeal.Gen Cert.Value
open Idealize.ShloMosaic Idealize.ShloMosaic.TcCoe Idealize.ShloMosaic.Tactic
open Idealize.ShloMosaic.Pipeline (Dat Cfg Window)

/-- Every execution ends with the eight results of the arguments, scaled as the kernel scales, if the kernel's scales are not negative. -/
theorem run (m : (ℓ : Loc nD τ sig) → Buf (Elt Ideal) ℓ) (ρ : Dev nD → PrngReg) (h0 : ∀ c b s, 0 ≤ kerXs ((argsOf m c).amax b s)) :
    θ_run defs (onTc (τ := τ) (main (F := Ideal))) ⟨m, fun _ => 0, ρ⟩ (fun r => ∀ c : Dev nD,
      r.2.mem ((c.tc : Thread nD τ).loc main_v12_5) = resRq (argsOf m c) kerXs kerInv
      ∧ r.2.mem ((c.tc : Thread nD τ).loc main_v12_6) = resRk (argsOf m c) kerXs kerInv
      ∧ r.2.mem ((c.tc : Thread nD τ).loc main_v12_7) = resRv (argsOf m c) kerXs kerInv
      ∧ r.2.mem ((c.tc : Thread nD τ).loc main_v12_0) = resCodes (argsOf m c) kerInv
      ∧ r.2.mem ((c.tc : Thread nD τ).loc main_v12_1) = resXs (argsOf m c) kerXs
      ∧ r.2.mem ((c.tc : Thread nD τ).loc main_v12_2) = resQ (argsOf m c) kerXs kerInv
      ∧ r.2.mem ((c.tc : Thread nD τ).loc main_v12_3) = resK (argsOf m c) kerXs kerInv
      ∧ r.2.mem ((c.tc : Thread nD τ).loc main_v12_4) = resV (argsOf m c) kerXs kerInv) := by
  have hO : Hand.Ok m := ok_all m
  refine (θ_run defs _ _).mono (fun r h c => ?_) (run_main m ρ hO)
  obtain ⟨after, hL, hA⟩ := h.exists_exact c
  have hl : ∀ w u, marks w = true → ((cfgM m hO).win w).flush u = true → Rl m hO c w u (after w u) := fun w u hw hf =>
    Pipeline.Dat.toRRel_leaves _ hw (hL w u hf)
  exact ⟨(hA 10).trans (arr10 m hO c after fun u => hl 10 u rfl), (hA 11).trans (arr11 m hO c after fun u => hl 11 u rfl),
    (hA 12).trans (arr12 m hO c after fun u => hl 12 u rfl), (hA 5).trans (arr5 m hO c after fun u => hl 5 u rfl),
    (hA 6).trans (arr6 m hO c after (h0 c) fun u => hl 6 u rfl), (hA 7).trans (arr7 m hO c after fun u => hl 7 u rfl),
    (hA 8).trans (arr8 m hO c after fun u => hl 8 u rfl), (hA 9).trans (arr9 m hO c after fun u => hl 9 u rfl)⟩

end Cert.ProjIdeal.Hand
end
-- ==== Proof.ProjR.Results.lean ====
module

public import proofs.«01_k».proof.Proof.Gen.ProjReferenceIdeal.Frame
public import proofs.«01_k».proof.Proof.Value.Spec
public import Idealize.ShloMosaic.Lib.StableHlo.ReadAt
public import Idealize.ShloMosaic.Lib.Pointwise

/-! What the reference computes: each result, entry by entry, as the specification's. -/

@[expose] public section

set_option maxRecDepth 16384
set_option maxHeartbeats 4000000

noncomputable section

namespace Cert.ProjReferenceIdeal.Hand

open Cert.ProjReferenceIdeal Cert.ProjReferenceIdeal.Gen Cert.Value
open Idealize.ShloMosaic Idealize.ShloMosaic.TcCoe Idealize.ShloMosaic.Tactic
open Idealize.SL Idealize.SL.Sem

/-! ## Before the region -/

section AnyInstance
variable {F : FTy → Type} [FloatOps F]

/-- The scales, from the row maxima. -/
theorem xs_at (W : Valuation τ sig (Elt F)) (b : Fin 8) (s : Fin 2048) :
    StableHlo.after (List.flatten [hostOps0, hostOps0_1, hostOps0_2, hostOps0_3, hostOps0_4]) W (Proc.devRef .tc main_v16) (ix2 b s)
      = refXs (Host.reduce FloatOps.maximumf (Host.absf (extf FTy.f32 (W (Proc.tc.devRef main_arg0)) bitsLt_bf16_f32))
            (constant S_ FTy.f32 0xFF800000#32) reducesTo_S8x2048x3840_S8x2048_d2 h_S_ (ix2 b s)) := by
  after_reads_at
  rfl

/-- The scaled and clipped tokens. -/
theorem scaled_at (W : Valuation τ sig (Elt F)) (b : Fin 8) (s : Fin 2048) (d : Fin 3840) :
    StableHlo.after (List.flatten [hostOps0, hostOps0_1, hostOps0_2, hostOps0_3, hostOps0_4]) W (Proc.devRef .tc main_v24) (ix2 ⟨b.val * 2048 + s.val, by omega⟩ d)
      = FloatOps.minimumf (FloatOps.ofBits FTy.f32 0x43E00000#32) (FloatOps.maximumf (FloatOps.ofBits FTy.f32 0xC3E00000#32)
          (FloatOps.mulf (FloatOps.extf FTy.f32 bitsLt_bf16_f32 (W (Proc.tc.devRef main_arg0) (ix3 b s d)))
            (refInv (Host.reduce FloatOps.maximumf (Host.absf (extf FTy.f32 (W (Proc.tc.devRef main_arg0)) bitsLt_bf16_f32))
            (constant S_ FTy.f32 0xFF800000#32) reducesTo_S8x2048x3840_S8x2048_d2 h_S_ (ix2 b s))))) := by
  after_reads_at
  rfl

theorem arg_at (W : Valuation τ sig (Elt F)) (k : Ref sig .tc) (hk : k = main_arg0 ∨ k = main_arg1 ∨ k = main_arg2 ∨ k = main_arg3 ∨ k = main_arg4) :
    StableHlo.after (List.flatten [hostOps0, hostOps0_1, hostOps0_2, hostOps0_3, hostOps0_4]) W (Proc.devRef .tc k) = W (Proc.devRef .tc k) := by
  rcases hk with rfl | rfl | rfl | rfl | rfl <;> after_reads_simp

end AnyInstance

/-- A row maximum is the specification's. -/
theorem reduce_eq (A : Args) (b : Fin 8) (s : Fin 2048) :
    Host.reduce FloatOps.maximumf (Host.absf (extf FTy.f32 A.x bitsLt_bf16_f32))
            (constant S_ FTy.f32 0xFF800000#32) reducesTo_S8x2048x3840_S8x2048_d2 h_S_ (ix2 b s) = A.amax b s := by
  have hr : Shape.Reduces S8x2048x3840 [2] S8x2048 := by decide
  rw [hostMax _ _ ofBits_bot32 _ hr _ _]
  unfold Args.amax
  refine iSup_congr fun d => ?_
  exact congrArg (fun i => mag (A.x i)) (lift_three hr b s d)

/-! ## After the region -/

/-- The codes. -/
theorem codes_at (W : Valuation τ sig (Elt Ideal)) (b : Fin 8) (s : Fin 2048) (d : Fin 3840) :
    StableHlo.after (List.flatten [hostOps1]) W (Proc.devRef .tc main_v26) (ix3 b s d)
      = W (Proc.devRef .tc main_v25_0) (ix2 ⟨b.val * 2048 + s.val, by omega⟩ d) := by
  after_reads_at

theorem xs_kept (W : Valuation τ sig (Elt Ideal)) :
    StableHlo.after (List.flatten [hostOps1]) W (Proc.devRef .tc main_v16) = W (Proc.devRef .tc main_v16) := by
  after_reads_simp

/-- What the buffers hold when the region is left: the arguments, the scales, and the codes' product. -/
structure Left (A : Args) (W : Valuation τ sig (Elt Ideal)) : Prop where
  ws : W (Proc.devRef .tc main_arg2) = A.ws
  bi : W (Proc.devRef .tc main_arg3) = A.bi
  pos : W (Proc.devRef .tc main_arg4) = A.pos
  xs : ∀ (b : Fin 8) (s : Fin 2048), W (Proc.devRef .tc main_v16) (ix2 b s) = refXs (F := Ideal) (A.amax b s)
  acc : ∀ (b : Fin 8) (s : Fin 2048) (h : b.val * 2048 + s.val < 16384) (e : Fin 5376),
    W (Proc.devRef .tc main_v25_1) (ix2 ⟨b.val * 2048 + s.val, h⟩ e) = ∑ d, A.code (refInv (F := Ideal)) b s d * A.w (ix2 d e)

/-- A product, scaled, with a bias. -/
abbrev affine (acc xs ws bi : EReal) : EReal := acc * (xs * ws) + bi

/-- A column of the scaled product with the bias is a coordinate of a head. -/
theorem Left.head {A : Args} {W : Valuation τ sig (Elt Ideal)} (h : Left A W) (n : Fin 42) (b : Fin 8) (s : Fin 2048) (j : Fin 128)
    (e : Fin 5376) (he : e.val = n.val * 128 + j.val) (hb : b.val * 2048 + s.val < 16384) :
    affine (W (Proc.devRef .tc main_v25_1) (ix2 ⟨b.val * 2048 + s.val, hb⟩ e)) (W (Proc.devRef .tc main_v16) (ix2 b s))
      (W (Proc.devRef .tc main_arg2) (ix1 e)) (W (Proc.devRef .tc main_arg3) (ix1 e))
        = A.head (refXs (F := Ideal)) (refInv (F := Ideal)) n b s j := by
  rw [← A.head_eq _ _ n b s j e he]
  exact congrArg₂ (fun u v : EReal => u + v) (congrArg₂ (fun u v : EReal => u * v) (h.acc b s hb e) (congrArg₂ (fun u v : EReal => u * v) (h.xs b s) (congrFun h.ws _))) (congrFun h.bi _)

/-- The angle of a token. -/
theorem Left.angle {A : Args} {W : Valuation τ sig (Elt Ideal)} (h : Left A W) (b : Fin 8) (s : Fin 2048) (j : ℕ) :
    FloatOps.sitofp (F := Ideal) .f32 (IntOp.addi (W (Proc.devRef .tc main_arg4) (ix1 b)) (BitVec.ofNat 32 s.val)) * freq j = A.angle b s j := by
  unfold Args.angle; rw [h.pos]

/-- The rotated query heads. -/
theorem q_any {A : Args} {W : Valuation τ sig (Elt Ideal)} (h : Left A W) (b : Fin 8) (n : Fin 30) (j : Fin 128) (s : Fin 2048) (P : EReal → Prop)
    (hP : P (A.rot (refXs (F := Ideal)) (refInv (F := Ideal)) ⟨n.val, by omega⟩ b s j)) :
    P (StableHlo.after (List.flatten [hostOps1]) W (Proc.devRef .tc main_v112) (ix4 b n j s)) := by
  after_reads_at
  by_cases hj : j.val < 64
  · simp only [hj, dif_pos]
    after_reads_at
    refine Eq.mp (congrArg P ((A.rot_lo _ _ _ b s j hj).trans (Eq.symm ?_))) hP
    exact congrArg₂ (fun u v : EReal => u - v)
      (congrArg₂ (fun u v : EReal => u * v) (h.head ⟨n.val, by omega⟩ b s j ⟨n.val * 128 + j.val, by omega⟩ (by show n.val * 128 + j.val = n.val * 128 + j.val; omega) _) (congrArg Ideal.cos (h.angle b s j.val)))
      (congrArg₂ (fun u v : EReal => u * v) (h.head ⟨n.val, by omega⟩ b s ⟨64 + j.val, by omega⟩ ⟨n.val * 128 + (64 + j.val), by omega⟩ (by show n.val * 128 + (64 + j.val) = n.val * 128 + (64 + j.val); omega) _) (congrArg Ideal.sin (h.angle b s j.val)))
  · simp only [hj, dif_neg, not_false_eq_true]
    after_reads_at
    refine Eq.mp (congrArg P ((A.rot_hi _ _ _ b s j hj).trans (Eq.symm ?_))) hP
    exact congrArg₂ (fun u v : EReal => u + v)
      (congrArg₂ (fun u v : EReal => u * v) (h.head ⟨n.val, by omega⟩ b s j ⟨n.val * 128 + (64 + (j.val - 64)), by omega⟩ (by show n.val * 128 + (64 + (j.val - 64)) = n.val * 128 + j.val; omega) _) (congrArg Ideal.cos (h.angle b s (j.val - 64))))
      (congrArg₂ (fun u v : EReal => u * v) (h.head ⟨n.val, by omega⟩ b s ⟨j.val - 64, by omega⟩ ⟨n.val * 128 + (j.val - 64), by omega⟩ (by show n.val * 128 + (j.val - 64) = n.val * 128 + (j.val - 64); omega) _) (congrArg Ideal.sin (h.angle b s (j.val - 64))))

theorem q_at {A : Args} {W : Valuation τ sig (Elt Ideal)} (h : Left A W) (b : Fin 8) (n : Fin 30) (j : Fin 128) (s : Fin 2048) :
    StableHlo.after (List.flatten [hostOps1]) W (Proc.devRef .tc main_v112) (ix4 b n j s)
      = A.rot (refXs (F := Ideal)) (refInv (F := Ideal)) ⟨n.val, by omega⟩ b s j := q_any h b n j s (fun v => v = A.rot (refXs (F := Ideal)) (refInv (F := Ideal)) ⟨n.val, by omega⟩ b s j) rfl

/-- The rotated key heads. -/
theorem k_any {A : Args} {W : Valuation τ sig (Elt Ideal)} (h : Left A W) (b : Fin 8) (n : Fin 6) (j : Fin 128) (s : Fin 2048) (P : EReal → Prop)
    (hP : P (A.rot (refXs (F := Ideal)) (refInv (F := Ideal)) ⟨30 + n.val, by omega⟩ b s j)) :
    P (StableHlo.after (List.flatten [hostOps1]) W (Proc.devRef .tc main_v113) (ix4 b n s j)) := by
  after_reads_at
  by_cases hj : j.val < 64
  · simp only [hj, dif_pos]
    after_reads_at
    refine Eq.mp (congrArg P ((A.rot_lo _ _ _ b s j hj).trans (Eq.symm ?_))) hP
    exact congrArg₂ (fun u v : EReal => u - v)
      (congrArg₂ (fun u v : EReal => u * v) (h.head ⟨30 + n.val, by omega⟩ b s j ⟨3840 + (n.val * 128 + j.val), by omega⟩ (by show 3840 + (n.val * 128 + j.val) = (30 + n.val) * 128 + j.val; omega) _) (congrArg Ideal.cos (h.angle b s j.val)))
      (congrArg₂ (fun u v : EReal => u * v) (h.head ⟨30 + n.val, by omega⟩ b s ⟨64 + j.val, by omega⟩ ⟨3840 + (n.val * 128 + (64 + j.val)), by omega⟩ (by show 3840 + (n.val * 128 + (64 + j.val)) = (30 + n.val) * 128 + (64 + j.val); omega) _) (congrArg Ideal.sin (h.angle b s j.val)))
  · simp only [hj, dif_neg, not_false_eq_true]
    after_reads_at
    refine Eq.mp (congrArg P ((A.rot_hi _ _ _ b s j hj).trans (Eq.symm ?_))) hP
    exact congrArg₂ (fun u v : EReal => u + v)
      (congrArg₂ (fun u v : EReal => u * v) (h.head ⟨30 + n.val, by omega⟩ b s j ⟨3840 + (n.val * 128 + (64 + (j.val - 64))), by omega⟩ (by show 3840 + (n.val * 128 + (64 + (j.val - 64))) = (30 + n.val) * 128 + j.val; omega) _) (congrArg Ideal.cos (h.angle b s (j.val - 64))))
      (congrArg₂ (fun u v : EReal => u * v) (h.head ⟨30 + n.val, by omega⟩ b s ⟨j.val - 64, by omega⟩ ⟨3840 + (n.val * 128 + (j.val - 64)), by omega⟩ (by show 3840 + (n.val * 128 + (j.val - 64)) = (30 + n.val) * 128 + (j.val - 64); omega) _) (congrArg Ideal.sin (h.angle b s (j.val - 64))))

theorem k_at {A : Args} {W : Valuation τ sig (Elt Ideal)} (h : Left A W) (b : Fin 8) (n : Fin 6) (j : Fin 128) (s : Fin 2048) :
    StableHlo.after (List.flatten [hostOps1]) W (Proc.devRef .tc main_v113) (ix4 b n s j)
      = A.rot (refXs (F := Ideal)) (refInv (F := Ideal)) ⟨30 + n.val, by omega⟩ b s j := k_any h b n j s (fun v => v = A.rot (refXs (F := Ideal)) (refInv (F := Ideal)) ⟨30 + n.val, by omega⟩ b s j) rfl

/-- The value heads. -/
theorem v_at {A : Args} {W : Valuation τ sig (Elt Ideal)} (h : Left A W) (b : Fin 8) (n : Fin 6) (j : Fin 128) (s : Fin 2048) :
    StableHlo.after (List.flatten [hostOps1]) W (Proc.devRef .tc main_v114) (ix4 b n j s)
      = A.head (refXs (F := Ideal)) (refInv (F := Ideal)) ⟨36 + n.val, by omega⟩ b s j := by
  after_reads_at
  exact h.head ⟨36 + n.val, by omega⟩ b s j ⟨4608 + (n.val * 128 + j.val), by omega⟩ (by show 4608 + (n.val * 128 + j.val) = (36 + n.val) * 128 + j.val; omega) _

/-- The row maxima, from the heads. -/
theorem rq_at (W : Valuation τ sig (Elt Ideal)) (b : Fin 8) (n : Fin 30) (s : Fin 2048) :
    StableHlo.after (List.flatten [hostOps1]) W (Proc.devRef .tc main_v109) (ix3 n b s)
      = ⨆ j, FloatOps.absf (F := Ideal) (φ := .bf16) (StableHlo.after (List.flatten [hostOps1]) W (Proc.devRef .tc main_v112) (ix4 b n j s)) := by
  rw [← Value.fold_max (φ := .bf16), ← ofBits_bot16]
  after_reads_at

theorem rk_at (W : Valuation τ sig (Elt Ideal)) (b : Fin 8) (n : Fin 6) (s : Fin 2048) :
    StableHlo.after (List.flatten [hostOps1]) W (Proc.devRef .tc main_v110) (ix3 n b s)
      = ⨆ j, FloatOps.absf (F := Ideal) (φ := .bf16) (StableHlo.after (List.flatten [hostOps1]) W (Proc.devRef .tc main_v113) (ix4 b n s j)) := by
  rw [← Value.fold_max (φ := .bf16), ← ofBits_bot16]
  after_reads_at

theorem rv_at (W : Valuation τ sig (Elt Ideal)) (b : Fin 8) (n : Fin 6) (s : Fin 2048) :
    StableHlo.after (List.flatten [hostOps1]) W (Proc.devRef .tc main_v111) (ix3 n b s)
      = ⨆ j, FloatOps.absf (F := Ideal) (φ := .bf16) (StableHlo.after (List.flatten [hostOps1]) W (Proc.devRef .tc main_v114) (ix4 b n j s)) := by
  rw [← Value.fold_max (φ := .bf16), ← ofBits_bot16]
  after_reads_at

end Cert.ProjReferenceIdeal.Hand
end
-- ==== Proof.ProjR.Run.lean ====
module

public import proofs.«01_k».proof.Proof.ProjR.Results
public import proofs.«01_k».proof.Proof.Value.Result
public import Idealize.ShloMosaic.Lib.Pipeline.ValueKit

/-! What a run of the reference leaves in its results, as functions of the arguments. -/

@[expose] public section

set_option maxRecDepth 16384
set_option maxHeartbeats 4000000

noncomputable section

namespace Cert.ProjReferenceIdeal.Hand

open Cert.ProjReferenceIdeal.Gen Cert.Value
open Idealize.ShloMosaic Idealize.ShloMosaic.TcCoe Idealize.ShloMosaic.Tactic Idealize.ShloMosaic.Pipeline

variable (m : (ℓ : Loc nD τ sig) → Buf (Elt Ideal) ℓ) (ρ : Dev nD → PrngReg)

/-- The arguments on a device. -/
def argsOf (c : Dev nD) : Args where
  x := m ((c.tc : Thread nD τ).loc main_arg0)
  w := m ((c.tc : Thread nD τ).loc main_arg1)
  ws := m ((c.tc : Thread nD τ).loc main_arg2)
  bi := m ((c.tc : Thread nD τ).loc main_arg3)
  pos := m ((c.tc : Thread nD τ).loc main_arg4)

theorem zero2 : (![0, 0] : Fin 2 → Nat) = fun _ => 0 := by funext a; fin_cases a <;> rfl

/-- The body: the codes are its first operand, the product is the operands'. -/
theorem out2_at (x0 : Vec Ideal S16384x3840 .f32) (x1 : Vec Ideal S3840x5376 .fp8e4m3) (r : Fin 16384) (d : Fin 3840) :
    out0_2 x0 x1 (ix2 r d) = (x0 (ix2 r d) : EReal) := by
  unfold out0_2
  rw [View.canon_unit_zero (by funext a; fin_cases a <;> rfl), View.ld_unit_zero (by funext a; fin_cases a <;> rfl)]
  pointwise [k0_pay1, k0_pay2]
theorem out3_at (x0 : Vec Ideal S16384x3840 .f32) (x1 : Vec Ideal S3840x5376 .fp8e4m3) (r : Fin 16384) (e : Fin 5376) :
    out0_3 x0 x1 (ix2 r e) = (∑ d : Fin 3840, (x0 (ix2 r d) : EReal) * (x1 (ix2 d e) : EReal)) := by
  unfold out0_3
  rw [View.canon_unit_zero (by funext a; fin_cases a <;> rfl), View.ld_unit_zero (by funext a; fin_cases a <;> rfl), View.ld_unit_zero (by funext a; fin_cases a <;> rfl)]
  pointwise [k0_pay1, k0_pay2]

/-- The first operand: the clipped tokens. -/
theorem scaled_V (c : Dev nD) (b : Fin 8) (s : Fin 2048) (d : Fin 3840) (h : b.val * 2048 + s.val < 16384) :
    (V m c main_v24 (ix2 (⟨b.val * 2048 + s.val, h⟩ : Fin 16384) d) : EReal) = (argsOf m c).code (refInv (F := Ideal)) b s d := by
  refine (scaled_at _ b s d).trans ?_
  unfold Args.code
  rw [← reduce_eq (argsOf m c) b s]
  rfl
theorem arr2 (c : Dev nD) : (dats m 0 c).arrAt 2 cfg0.N = fun y => (V m c main_v24 y : EReal) := by
  have e0 : ∀ t : Fin cfg0.N, win0_0.index t = ![0, 0] := by decide +kernel
  have e2 : ∀ t : Fin cfg0.N, win0_2.index t = ![0, 0] := by decide +kernel
  refine Dat.arrAt_eq_of_covers _ 2 _ (by decide +kernel) fun t hf y => ?_
  blk_simp [iblk, e0, e2]
  rw [after0_2]
  obtain ⟨r, d, rfl⟩ : ∃ (r : Fin 16384) (d : Fin 3840), y = ix2 r d := ⟨y 0, y 1, (ix2_eta y).symm⟩
  refine (out2_at _ _ r d).trans ?_
  show V m c main_v24 ((win0_0.blk t).view.emb (ix2 r d)) = V m c main_v24 ((win0_2.blk t).view.emb (ix2 r d))
  exact congrArg _ (by blk_ext [e0, e2])
/-- A sum of products. -/
def dot (f g : Fin 3840 → EReal) : EReal := ∑ d, f d * g d
theorem dot_congr {f g f' g' : Fin 3840 → EReal} (hf : ∀ d, f d = f' d) (hg : ∀ d, g d = g' d) : dot f g = ∑ d, f' d * g' d :=
  Finset.sum_congr rfl fun d _ => congrArg₂ (fun u v : EReal => u * v) (hf d) (hg d)
theorem arr3 (c : Dev nD) : (dats m 0 c).arrAt 3 cfg0.N = fun y : S16384x5376.Idx => dot (fun d => V m c main_v24 (ix2 (y 0) d)) (fun d => V m c main_arg1 (ix2 d (y 1))) := by
  have e0 : ∀ t : Fin cfg0.N, win0_0.index t = ![0, 0] := by decide +kernel
  have e2 : ∀ t : Fin cfg0.N, win0_1.index t = ![0, 0] := by decide +kernel
  have e3 : ∀ t : Fin cfg0.N, win0_3.index t = ![0, 0] := by decide +kernel
  refine Dat.arrAt_eq_of_covers _ 3 _ (by decide +kernel) fun t hf y => ?_
  blk_simp [iblk, e0, e2, e3]
  rw [after0_3]
  obtain ⟨r, e, rfl⟩ : ∃ (r : Fin 16384) (e : Fin 5376), y = ix2 r e := ⟨y 0, y 1, (ix2_eta y).symm⟩
  refine (out3_at _ _ r e).trans ?_
  refine Finset.sum_congr rfl fun d _ => congrArg₂ (fun u v : EReal => u * v) ?_ ?_
  · show V m c main_v24 ((win0_0.blk t).view.emb (ix2 r d)) = V m c main_v24 (ix2 ((win0_3.blk t).view.emb (ix2 r e) 0) d)
    exact congrArg _ (by blk_ext [e0, e3])
  · show V m c main_arg1 ((win0_1.blk t).view.emb (ix2 d e)) = V m c main_arg1 (ix2 d ((win0_3.blk t).view.emb (ix2 r e) 1))
    exact congrArg _ (by blk_ext [e2, e3])
theorem left (c : Dev nD) : Left (argsOf m c) (withArrays spec0 c (V0 m c) fun w => (dats m 0 c).arrAt w cfg0.N) where
  ws := (withArrays_of_ne _ c (V0 m c) _ main_arg2 (by exact (by decide : ∀ w, Pipeline.arrRef spec0 w ≠ main_arg2))).trans (V_main_arg2 m c)
  bi := (withArrays_of_ne _ c (V0 m c) _ main_arg3 (by exact (by decide : ∀ w, Pipeline.arrRef spec0 w ≠ main_arg3))).trans (V_main_arg3 m c)
  pos := (withArrays_of_ne _ c (V0 m c) _ main_arg4 (by exact (by decide : ∀ w, Pipeline.arrRef spec0 w ≠ main_arg4))).trans (V_main_arg4 m c)
  xs b s := by
    rw [withArrays_of_ne _ c (V0 m c) _ main_v16 (by exact (by decide : ∀ w, Pipeline.arrRef spec0 w ≠ main_v16))]
    refine (xs_at _ b s).trans ?_
    rw [← reduce_eq (argsOf m c) b s]
    rfl
  acc b s h e := by
    refine (congrFun (withArrays_arr spec0 launch0.win.arr_inj c (V0 m c) _ 3) _).trans ((congrFun (arr3 m c) _).trans ?_)
    exact dot_congr (fun d => scaled_V m c b s d h) (fun d => congrFun (V_main_arg1 m c) _)
/-- Every run of the reference leaves these results. -/
theorem run : θ_run defs (onTc (τ := τ) (main (F := Ideal))) ⟨m, fun _ => 0, ρ⟩ (fun r => ∀ c : Dev nD,
      r.2.mem ((c.tc : Thread nD τ).loc main_v109) = resRq (argsOf m c) (refXs (F := Ideal)) (refInv (F := Ideal))
      ∧ r.2.mem ((c.tc : Thread nD τ).loc main_v110) = resRk (argsOf m c) (refXs (F := Ideal)) (refInv (F := Ideal))
      ∧ r.2.mem ((c.tc : Thread nD τ).loc main_v111) = resRv (argsOf m c) (refXs (F := Ideal)) (refInv (F := Ideal))
      ∧ r.2.mem ((c.tc : Thread nD τ).loc main_v26) = resCodes (argsOf m c) (refInv (F := Ideal))
      ∧ r.2.mem ((c.tc : Thread nD τ).loc main_v16) = resXs (argsOf m c) (refXs (F := Ideal))
      ∧ r.2.mem ((c.tc : Thread nD τ).loc main_v112) = resQ (argsOf m c) (refXs (F := Ideal)) (refInv (F := Ideal))
      ∧ r.2.mem ((c.tc : Thread nD τ).loc main_v113) = resK (argsOf m c) (refXs (F := Ideal)) (refInv (F := Ideal))
      ∧ r.2.mem ((c.tc : Thread nD τ).loc main_v114) = resV (argsOf m c) (refXs (F := Ideal)) (refInv (F := Ideal))) := by
  refine (θ_run defs _ _).mono (fun r h c => ?_) (run_main m ρ)
  have L := left m c
  refine ⟨?_, ?_, ?_, ?_, ?_, ?_, ?_, ?_⟩
  · rw [(h c).2 main_v109 (Pipeline.mem_restRefs_of main_v109 (by decide) (by decide))]
    funext y
    obtain ⟨n, b, s, rfl⟩ : ∃ (n : Fin 30) (b : Fin 8) (s : Fin 2048), y = ix3 n b s := ⟨y 0, y 1, y 2, (ix3_eta y).symm⟩
    refine (rq_at _ b n s).trans ?_
    simp only [q_at L]
    rfl
  · rw [(h c).2 main_v110 (Pipeline.mem_restRefs_of main_v110 (by decide) (by decide))]
    funext y
    obtain ⟨n, b, s, rfl⟩ : ∃ (n : Fin 6) (b : Fin 8) (s : Fin 2048), y = ix3 n b s := ⟨y 0, y 1, y 2, (ix3_eta y).symm⟩
    refine (rk_at _ b n s).trans ?_
    simp only [k_at L]
    rfl
  · rw [(h c).2 main_v111 (Pipeline.mem_restRefs_of main_v111 (by decide) (by decide))]
    funext y
    obtain ⟨n, b, s, rfl⟩ : ∃ (n : Fin 6) (b : Fin 8) (s : Fin 2048), y = ix3 n b s := ⟨y 0, y 1, y 2, (ix3_eta y).symm⟩
    refine (rv_at _ b n s).trans ?_
    simp only [v_at L]
    rfl
  · rw [(h c).2 main_v26 (Pipeline.mem_restRefs_of main_v26 (by decide) (by decide))]
    funext y
    obtain ⟨b, s, d, rfl⟩ : ∃ (b : Fin 8) (s : Fin 2048) (d : Fin 3840), y = ix3 b s d := ⟨y 0, y 1, y 2, (ix3_eta y).symm⟩
    refine (codes_at _ b s d).trans ?_
    refine (congrFun (withArrays_arr spec0 launch0.win.arr_inj c (V0 m c) _ 2) _).trans ((congrFun (arr2 m c) _).trans ?_)
    exact scaled_V m c b s d _
  · rw [(h c).2 main_v16 (Pipeline.mem_restRefs_of main_v16 (by decide) (by decide))]
    funext y
    obtain ⟨b, s, rfl⟩ : ∃ (b : Fin 8) (s : Fin 2048), y = ix2 b s := ⟨y 0, y 1, (ix2_eta y).symm⟩
    exact (congrFun (xs_kept _) _).trans (L.xs b s)
  · rw [(h c).2 main_v112 (Pipeline.mem_restRefs_of main_v112 (by decide) (by decide))]
    funext y
    obtain ⟨b, n, j, s, rfl⟩ : ∃ (b : Fin 8) (n : Fin 30) (j : Fin 128) (s : Fin 2048), y = ix4 b n j s := ⟨y 0, y 1, y 2, y 3, (ix4_eta y).symm⟩
    exact q_at L b n j s
  · rw [(h c).2 main_v113 (Pipeline.mem_restRefs_of main_v113 (by decide) (by decide))]
    funext y
    obtain ⟨b, n, s, j, rfl⟩ : ∃ (b : Fin 8) (n : Fin 6) (s : Fin 2048) (j : Fin 128), y = ix4 b n s j := ⟨y 0, y 1, y 2, y 3, (ix4_eta y).symm⟩
    exact k_at L b n j s
  · rw [(h c).2 main_v114 (Pipeline.mem_restRefs_of main_v114 (by decide) (by decide))]
    funext y
    obtain ⟨b, n, j, s, rfl⟩ : ∃ (b : Fin 8) (n : Fin 6) (j : Fin 128) (s : Fin 2048), y = ix4 b n j s := ⟨y 0, y 1, y 2, y 3, (ix4_eta y).symm⟩
    exact v_at L b n j s

end Cert.ProjReferenceIdeal.Hand
end
-- ==== Proof.Value.InRange.lean ====
module

public import proofs.«01_k».proof.Proof.Value.Exponent
public import Idealize.ShloMosaic.Lib.ReduceAll
public import proofs.«01_k».proof.Pre_x_in_range

/-! What the precondition says, token by token; and that a scale is not negative. -/

@[expose] public section

set_option maxRecDepth 16384
set_option maxHeartbeats 1000000

noncomputable section

namespace Cert.Value

open Idealize.ShloMosaic Idealize.ShloMosaic.Tactic

/-- Two to any power is not negative. -/
theorem pow_nonneg' (y : EReal) : 0 ≤ Ideal.pow ((2 : ℝ) : EReal) y := by
  induction y with
  | bot =>
    show (0 : EReal) ≤ if (2 : ℝ) < 0 then ⊥ else if (1 : ℝ) < 2 then 0 else if (2 : ℝ) = 1 then 1 else ⊤
    norm_num
  | top =>
    show (0 : EReal) ≤ if (2 : ℝ) < 0 then ⊥ else if (1 : ℝ) < 2 then ⊤ else if (2 : ℝ) = 1 then 1 else 0
    norm_num
  | coe r =>
    show (0 : EReal) ≤ (Real.rpow 2 r : EReal)
    exact_mod_cast Real.rpow_nonneg (by norm_num) r

/-- The reference's scale is not negative. -/
theorem refXs_nonneg (a : EReal) : (0 : EReal) ≤ refXs (F := Ideal) a := by
  show 0 ≤ Ideal.pow (Ideal.ofBits FTy.f32 0x40000000#32) (refE (F := Ideal) a)
  rw [two]
  exact pow_nonneg' _

/-- A magnitude is not negative; so neither is a largest one. -/
theorem mag_nonneg (v : EReal) : 0 ≤ mag v := by
  show (0 : EReal) ≤ max v (-v)
  rcases le_total 0 v with h | h
  · exact le_max_of_le_left h
  · exact le_max_of_le_right (by simpa using EReal.neg_le_neg_iff.mpr h)

theorem amax_nonneg (A : Args) (b : Fin 8) (s : Fin 2048) : 0 ≤ A.amax b s :=
  le_trans (mag_nonneg _) (le_iSup (fun d => mag (A.x (ix3 b s d))) (0 : Fin 3840))

/-- The test of one token read as a statement. -/
theorem ok_of_test (a : EReal)
    (h : IntOp.ori (Ideal.cmp .oeq a (Ideal.ofBits .f32 0x00000000#32))
      (IntOp.andi (Ideal.cmp .oge (a * Ideal.ofBits .f32 0x3B124925#32) (Ideal.ofBits .f32 0x00800000#32))
        (Ideal.cmp .ole a (Ideal.ofBits .f32 0x7F7F0000#32))) = 1#1) : Ok a := by
  rw [Ideal.cmp_oeq, Ideal.cmp_oge, Ideal.cmp_ole] at h
  by_cases h0 : a = Ideal.ofBits .f32 0x00000000#32
  · left; rw [h0]; simp [Ideal.ofBits, Ideal.ieee]
  · right
    rw [decide_eq_false h0] at h
    by_cases h1 : Ideal.ofBits .f32 0x00800000#32 ≤ a * Ideal.ofBits .f32 0x3B124925#32
    · by_cases h2 : a ≤ Ideal.ofBits .f32 0x7F7F0000#32
      · exact ⟨h1, h2⟩
      · rw [decide_eq_true h1, decide_eq_false h2] at h; exact absurd h (by decide)
    · rw [decide_eq_false h1] at h
      by_cases h2 : a ≤ Ideal.ofBits .f32 0x7F7F0000#32
      · rw [decide_eq_true h2] at h; exact absurd h (by decide)
      · rw [decide_eq_false h2] at h; exact absurd h (by decide)

theorem ok_of_tests {S : Shape} (M c lo hi z : FVec Ideal S .f32) (i : S.Idx) (hc : c i = Ideal.ofBits .f32 0x3B124925#32)
    (hlo : lo i = Ideal.ofBits .f32 0x00800000#32) (hhi : hi i = Ideal.ofBits .f32 0x7F7F0000#32) (hz : z i = Ideal.ofBits .f32 0x00000000#32)
    (h : ori (cmpf .oeq M z) (andi (cmpf .oge (mulf M c) lo) (cmpf .ole M hi)) i = 1#1) : Ok (M i) := by
  refine ok_of_test _ ?_
  rw [← hc, ← hlo, ← hhi, ← hz]
  exact h

/-- The precondition: every token's largest magnitude is in range. -/
theorem ok_of_pre [Cert.Pre_x_in_range.Facts] (A : Args) (j : Cert.Pre_x_in_range.S_.Idx)
    (h : Cert.Pre_x_in_range.fn (F := Ideal) A.x A.w A.ws A.bi A.pos j = 1#1)
    (b : Fin 8) (s : Fin 2048) : Ok (A.amax b s) := by
  unfold Cert.Pre_x_in_range.fn at h
  haveI : Subsingleton Cert.Pre_x_in_range.S_.Idx := ⟨fun a b => by funext k; exact k.elim0⟩
  have h' := Host.reduce_andi_all _ _ _ _ j h (ix2 b s)
  have hr : Shape.Reduces Cert.Pre_x_in_range.S8x2048x3840 [2] Cert.Pre_x_in_range.S8x2048 := by decide
  have e : Host.reduce FloatOps.maximumf (Host.absf (extf FTy.f32 A.x Cert.Pre_x_in_range.Facts.bitsLt_bf16_f32))
            (constant Cert.Pre_x_in_range.S_ FTy.f32 0xFF800000#32) Cert.Pre_x_in_range.Facts.reducesTo_S8x2048x3840_S8x2048_d2
            Cert.Pre_x_in_range.Facts.h_S_ (ix2 b s) = A.amax b s := by
    rw [hostMax _ _ ofBits_bot32 _ hr _ _]
    unfold Args.amax
    refine iSup_congr fun d => ?_
    exact congrArg (fun i => mag (A.x i)) (lift_three hr b s d)
  rw [← e]
  exact ok_of_tests _ _ _ _ _ _ rfl rfl rfl rfl h'

end Cert.Value
end
-- ==== Proof.Equation.lean ====
module

public import proofs.«01_k».proof.Proof.ProjI.Results
public import proofs.«01_k».proof.Proof.ProjR.Run
public import proofs.«01_k».proof.Proof.Value.InRange
public import proofs.«01_k».proof.Defs

/-! The projection kernel and its reference end with the same results, where the tokens' magnitudes are in range. -/

@[expose] public section

set_option maxRecDepth 16384
set_option maxHeartbeats 4000000

noncomputable section

namespace Cert.Value

open Idealize.ShloMosaic Idealize.ShloMosaic.TcCoe

/-- The side conditions that the precondition's text states. -/
theorem preFacts : Cert.Pre_x_in_range.Facts where
  bitsLt_bf16_f32 := by decide
  reducesTo_S8x2048x3840_S8x2048_d2 := by decide
  h_S_ := by decide
  bcast_S_S8x2048 := by decide
  reducesTo_S8x2048_S_d0_1 := by decide

/-- Arguments with the same arrays are the same. -/
theorem args_ext {A B : Args} (h0 : A.x = B.x) (h1 : A.w = B.w) (h2 : A.ws = B.ws) (h3 : A.bi = B.bi) (h4 : A.pos = B.pos) : A = B := by
  cases A; cases B; cases h0; cases h1; cases h2; cases h3; cases h4; rfl

/-- The kernel's scale of a token in range is the reference's, its factor is the reference's, and the scale is not negative. -/
theorem scales_eq [Cert.Pre_x_in_range.Facts] (A : Args) (h : Cert.Pre_x_in_range.fn (F := Ideal) A.x A.w A.ws A.bi A.pos = fun _ => 1#1)
    (b : Fin 8) (s : Fin 2048) : kerXs (A.amax b s) = refXs (F := Ideal) (A.amax b s) ∧ kerInv (A.amax b s) = refInv (F := Ideal) (A.amax b s)
      ∧ 0 ≤ kerXs (A.amax b s) := by
  have e := exponent_eq (A.amax b s) (ok_of_pre A (fun i => i.elim0) (congrFun h _) b s) (amax_nonneg A b s)
  exact ⟨e.1, e.2, e.1.symm ▸ refXs_nonneg _⟩

section congr
variable (A : Args) {sc sc' inv inv' : EReal → EReal} (hs : ∀ b s, sc (A.amax b s) = sc' (A.amax b s))
  (hi : ∀ b s, inv (A.amax b s) = inv' (A.amax b s))
include hi

/-- Two ways of scaling that agree on every token give the same results. -/
theorem resCodes_congr : resCodes A inv = resCodes A inv' := by unfold resCodes; rw [A.code_congr hi]
include hs
theorem resQ_congr : resQ A sc inv = resQ A sc' inv' := by unfold resQ; rw [A.rot_congr hs hi]
theorem resK_congr : resK A sc inv = resK A sc' inv' := by unfold resK; rw [A.rot_congr hs hi]
theorem resV_congr : resV A sc inv = resV A sc' inv' := by unfold resV; rw [A.head_congr hs hi]
theorem resRq_congr : resRq A sc inv = resRq A sc' inv' := by unfold resRq; rw [A.rowRot_congr hs hi]
theorem resRk_congr : resRk A sc inv = resRk A sc' inv' := by unfold resRk; rw [A.rowRot_congr hs hi]
theorem resRv_congr : resRv A sc inv = resRv A sc' inv' := by unfold resRv; rw [A.rowHead_congr hs hi]
omit hi
theorem resXs_congr : resXs A sc = resXs A sc' := funext fun _ => hs _ _
end congr

/-- The kernel and the reference, run on the same arguments in range, end with the same eight results. -/
theorem algebraic : Cert.algebraic_ProjIdeal_ProjReferenceIdeal_pre_x_in_range (hProjIdeal := Cert.ProjIdeal.Gen.facts)
    (hProjReferenceIdeal := Cert.ProjReferenceIdeal.Gen.facts) (hPre_x_in_range := preFacts) := by
  haveI := preFacts
  intro m g m' g' hpre hargs
  have hA : ∀ c, Cert.ProjIdeal.Hand.argsOf m c = Cert.ProjReferenceIdeal.Hand.argsOf m' c := fun c =>
    args_ext (hargs c).1.symm (hargs c).2.1.symm (hargs c).2.2.1.symm (hargs c).2.2.2.1.symm (hargs c).2.2.2.2.symm
  have hsc := fun c => scales_eq (Cert.ProjIdeal.Hand.argsOf m c) (hpre c)
  have h1 := fun c b s => (hsc c b s).1
  have h2 := fun c b s => (hsc c b s).2.1
  let A := Cert.ProjReferenceIdeal.Hand.argsOf m'
  refine ⟨fun c => resRq (A c) (refXs (F := Ideal)) (refInv (F := Ideal)), fun c => resRk (A c) (refXs (F := Ideal)) (refInv (F := Ideal)),
    fun c => resRv (A c) (refXs (F := Ideal)) (refInv (F := Ideal)), fun c => resCodes (A c) (refInv (F := Ideal)),
    fun c => resXs (A c) (refXs (F := Ideal)), fun c => resQ (A c) (refXs (F := Ideal)) (refInv (F := Ideal)),
    fun c => resK (A c) (refXs (F := Ideal)) (refInv (F := Ideal)), fun c => resV (A c) (refXs (F := Ideal)) (refInv (F := Ideal)), ?_, ?_⟩
  · refine (θ_run Cert.ProjIdeal.defs _ _).mono (fun r h c => ?_) (θ_run_and (Cert.ProjIdeal.Hand.run m g fun c b s => (hsc c b s).2.2)
      (Cert.ProjIdeal.Hand.unchanged m g (Cert.ProjIdeal.Hand.ok_all m)))
    obtain ⟨v0, v1, v2, v3, v4, v5, v6, v7⟩ := h.1 c
    rw [resRq_congr _ (h1 c) (h2 c), hA c] at v0
    rw [resRk_congr _ (h1 c) (h2 c), hA c] at v1
    rw [resRv_congr _ (h1 c) (h2 c), hA c] at v2
    rw [resCodes_congr _ (h2 c), hA c] at v3
    rw [resXs_congr _ (h1 c), hA c] at v4
    rw [resQ_congr _ (h1 c) (h2 c), hA c] at v5
    rw [resK_congr _ (h1 c) (h2 c), hA c] at v6
    rw [resV_congr _ (h1 c) (h2 c), hA c] at v7
    exact ⟨v0, v1, v2, v3, v4, v5, v6, v7, h.2 c⟩
  · refine (θ_run Cert.ProjReferenceIdeal.defs _ _).mono (fun r h c => ?_) (θ_run_and (Cert.ProjReferenceIdeal.Hand.run m' g')
      (Cert.ProjReferenceIdeal.Gen.unchanged m' g'))
    obtain ⟨v0, v1, v2, v3, v4, v5, v6, v7⟩ := h.1 c
    exact ⟨v0, v1, v2, v3, v4, v5, v6, v7, h.2 c⟩

end Cert.Value
end
-- ==== Proof.ProjK.Points.lean ====
module

public import proofs.«01_k».proof.Proof.Gen.Proj
public import Idealize.ShloMosaic.Lib.Pipeline.Kit

/-! The schedule of the projection call: at which of its 32 grid points each of its nineteen windows is fetched
or written back, and the kernel body as the pipeline calls it at a point. -/

@[expose] public section

noncomputable section

namespace Cert.Proj.Hand

open Cert.Proj.Gen
open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%9)) is fetched at the first point only, at any contents of the tables (its index map reads none). -/
theorem fetch0_0 (a : (pcfg0 (F := F)).Adm) : ∀ t : Fin (cfg0 a).N, ((cfg0 a).win 0).fetch t = true ↔ t.val % 32 = 0 :=
  (fun t => Pipeline.Window.fetchOf_const cc0_transform_0 (fun _ _ => rfl) (n := 32) (by decide) t : ∀ t : Fin grid0.N, Pipeline.Window.fetchOf grid0 false cc0_transform_0 t = true ↔ t.val % 32 = 0)
/-- Window 1 (operand 2 (%arg0)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 0 (fun _ => rfl) (by decide)) (P := 1) (by decide) t).mpr (Nat.mod_one _) : ∀ t : Fin grid0.N, Pipeline.Window.fetchOf grid0 false cc0_transform_1 t = true)
/-- Window 2 (operand 3 (%arg1)) is fetched at the first point only, at any contents of the tables (its index map reads none). -/
theorem fetch0_2 (a : (pcfg0 (F := F)).Adm) : ∀ t : Fin (cfg0 a).N, ((cfg0 a).win 2).fetch t = true ↔ t.val % 32 = 0 :=
  (fun t => Pipeline.Window.fetchOf_const cc0_transform_2 (fun _ _ => rfl) (n := 32) (by decide) t : ∀ t : Fin grid0.N, Pipeline.Window.fetchOf grid0 false cc0_transform_2 t = true ↔ t.val % 32 = 0)
/-- Window 3 (operand 4 (%10)) is fetched at the first point only, at any contents of the tables (its index map reads none). -/
theorem fetch0_3 (a : (pcfg0 (F := F)).Adm) : ∀ t : Fin (cfg0 a).N, ((cfg0 a).win 3).fetch t = true ↔ t.val % 32 = 0 :=
  (fun t => Pipeline.Window.fetchOf_const cc0_transform_3 (fun _ _ => rfl) (n := 32) (by decide) t : ∀ t : Fin grid0.N, Pipeline.Window.fetchOf grid0 false cc0_transform_3 t = true ↔ t.val % 32 = 0)
/-- Window 4 (operand 5 (%11)) is fetched at the first point only, at any contents of the tables (its index map reads none). -/
theorem fetch0_4 (a : (pcfg0 (F := F)).Adm) : ∀ t : Fin (cfg0 a).N, ((cfg0 a).win 4).fetch t = true ↔ t.val % 32 = 0 :=
  (fun t => Pipeline.Window.fetchOf_const cc0_transform_4 (fun _ _ => rfl) (n := 32) (by decide) t : ∀ t : Fin grid0.N, Pipeline.Window.fetchOf grid0 false cc0_transform_4 t = true ↔ t.val % 32 = 0)
/-- Window 5 (result 0 (%12#0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 0 (fun _ => rfl) (by decide)) (P := 1) (m := 0) (by decide) rfl t).mpr (Nat.mod_one _) : ∀ t : Fin grid0.N, Pipeline.Window.flushOf grid0 true cc0_transform_5 t = true)
/-- Window 6 (result 1 (%12#1)) is written back at the points ≡ 7 (mod 8), at any contents of the tables (its index map reads none). -/
theorem flush0_6 (a : (pcfg0 (F := F)).Adm) : ∀ t : Fin (cfg0 a).N, ((cfg0 a).win 6).flush t = true ↔ t.val % 8 = 7 :=
  (fun t => Pipeline.Window.flushOf_reads cc0_transform_6 reads0_6 hreads0_6 0 (by decide) (by decide) (Pipeline.Window.sep_of_coord cc0_transform_6 0 1 (fun _ => rfl) (by decide)) (P := 8) (m := 7) (by decide) rfl t : ∀ t : Fin grid0.N, Pipeline.Window.flushOf grid0 true cc0_transform_6 t = true ↔ t.val % 8 = 7)
/-- Window 7 (result 2 (%12#2)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 0 (fun _ => rfl) (by decide)) (P := 1) (m := 0) (by decide) rfl t).mpr (Nat.mod_one _) : ∀ t : Fin grid0.N, Pipeline.Window.flushOf grid0 true cc0_transform_7 t = true)
/-- Window 8 (result 3 (%12#3)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 0 (fun _ => rfl) (by decide)) (P := 1) (m := 0) (by decide) rfl t).mpr (Nat.mod_one _) : ∀ t : Fin grid0.N, Pipeline.Window.flushOf grid0 true cc0_transform_8 t = true)
/-- Window 9 (result 4 (%12#4)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 1 (by decide) (by decide) (Pipeline.Window.sep_of_coord cc0_transform_9 1 0 (fun _ => rfl) (by decide)) (P := 1) (m := 0) (by decide) rfl t).mpr (Nat.mod_one _) : ∀ t : Fin grid0.N, Pipeline.Window.flushOf grid0 true cc0_transform_9 t = true)
/-- Window 10 (result 5 (%12#5)) is written back at the points ≡ 7 (mod 8), at any contents of the tables (its index map reads none). -/
theorem flush0_10 (a : (pcfg0 (F := F)).Adm) : ∀ t : Fin (cfg0 a).N, ((cfg0 a).win 10).flush t = true ↔ t.val % 8 = 7 :=
  (fun t => Pipeline.Window.flushOf_reads cc0_transform_10 reads0_10 hreads0_10 0 (by decide) (by decide) (Pipeline.Window.sep_of_coord cc0_transform_10 0 2 (fun _ => rfl) (by decide)) (P := 8) (m := 7) (by decide) rfl t : ∀ t : Fin grid0.N, Pipeline.Window.flushOf grid0 true cc0_transform_10 t = true ↔ t.val % 8 = 7)
/-- Window 11 (result 6 (%12#6)) is written back at the points ≡ 7 (mod 8), at any contents of the tables (its index map reads none). -/
theorem flush0_11 (a : (pcfg0 (F := F)).Adm) : ∀ t : Fin (cfg0 a).N, ((cfg0 a).win 11).flush t = true ↔ t.val % 8 = 7 :=
  (fun t => Pipeline.Window.flushOf_reads cc0_transform_11 reads0_11 hreads0_11 0 (by decide) (by decide) (Pipeline.Window.sep_of_coord cc0_transform_11 0 2 (fun _ => rfl) (by decide)) (P := 8) (m := 7) (by decide) rfl t : ∀ t : Fin grid0.N, Pipeline.Window.flushOf grid0 true cc0_transform_11 t = true ↔ t.val % 8 = 7)
/-- Window 12 (result 7 (%12#7)) is written back at the points ≡ 7 (mod 8), at any contents of the tables (its index map reads none). -/
theorem flush0_12 (a : (pcfg0 (F := F)).Adm) : ∀ t : Fin (cfg0 a).N, ((cfg0 a).win 12).flush t = true ↔ t.val % 8 = 7 :=
  (fun t => Pipeline.Window.flushOf_reads cc0_transform_12 reads0_12 hreads0_12 0 (by decide) (by decide) (Pipeline.Window.sep_of_coord cc0_transform_12 0 2 (fun _ => rfl) (by decide)) (P := 8) (m := 7) (by decide) rfl t : ∀ t : Fin grid0.N, Pipeline.Window.flushOf grid0 true cc0_transform_12 t = true ↔ t.val % 8 = 7)
/-- Window 13 (result 8 (%12#8)) is written back at the last point only, at any contents of the tables (its index map reads none). -/
theorem flush0_13 (a : (pcfg0 (F := F)).Adm) : ∀ t : Fin (cfg0 a).N, ((cfg0 a).win 13).flush t = true ↔ t.val % 32 = 31 :=
  (fun t => Pipeline.Window.flushOf_const cc0_transform_13 (fun _ _ => rfl) (n := 32) (by decide) rfl t : ∀ t : Fin grid0.N, Pipeline.Window.flushOf grid0 true cc0_transform_13 t = true ↔ t.val % 32 = 31)
/-- Window 14 (result 9 (%12#9)) is written back at the last point only, at any contents of the tables (its index map reads none). -/
theorem flush0_14 (a : (pcfg0 (F := F)).Adm) : ∀ t : Fin (cfg0 a).N, ((cfg0 a).win 14).flush t = true ↔ t.val % 32 = 31 :=
  (fun t => Pipeline.Window.flushOf_const cc0_transform_14 (fun _ _ => rfl) (n := 32) (by decide) rfl t : ∀ t : Fin grid0.N, Pipeline.Window.flushOf grid0 true cc0_transform_14 t = true ↔ t.val % 32 = 31)
/-- Window 15 (result 10 (%12#10)) is written back at the last point only, at any contents of the tables (its index map reads none). -/
theorem flush0_15 (a : (pcfg0 (F := F)).Adm) : ∀ t : Fin (cfg0 a).N, ((cfg0 a).win 15).flush t = true ↔ t.val % 32 = 31 :=
  (fun t => Pipeline.Window.flushOf_const cc0_transform_15 (fun _ _ => rfl) (n := 32) (by decide) rfl t : ∀ t : Fin grid0.N, Pipeline.Window.flushOf grid0 true cc0_transform_15 t = true ↔ t.val % 32 = 31)
/-- Window 16 (result 11 (%12#11)) is written back at the last point only, at any contents of the tables (its index map reads none). -/
theorem flush0_16 (a : (pcfg0 (F := F)).Adm) : ∀ t : Fin (cfg0 a).N, ((cfg0 a).win 16).flush t = true ↔ t.val % 32 = 31 :=
  (fun t => Pipeline.Window.flushOf_const cc0_transform_16 (fun _ _ => rfl) (n := 32) (by decide) rfl t : ∀ t : Fin grid0.N, Pipeline.Window.flushOf grid0 true cc0_transform_16 t = true ↔ t.val % 32 = 31)
/-- Window 17 (result 12 (%12#12)) is written back at the last point only, at any contents of the tables (its index map reads none). -/
theorem flush0_17 (a : (pcfg0 (F := F)).Adm) : ∀ t : Fin (cfg0 a).N, ((cfg0 a).win 17).flush t = true ↔ t.val % 32 = 31 :=
  (fun t => Pipeline.Window.flushOf_const cc0_transform_17 (fun _ _ => rfl) (n := 32) (by decide) rfl t : ∀ t : Fin grid0.N, Pipeline.Window.flushOf grid0 true cc0_transform_17 t = true ↔ t.val % 32 = 31)
/-- Window 18 (result 13 (%12#13)) is written back at the last point only, at any contents of the tables (its index map reads none). -/
theorem flush0_18 (a : (pcfg0 (F := F)).Adm) : ∀ t : Fin (cfg0 a).N, ((cfg0 a).win 18).flush t = true ↔ t.val % 32 = 31 :=
  (fun t => Pipeline.Window.flushOf_const cc0_transform_18 (fun _ _ => rfl) (n := 32) (by decide) rfl t : ∀ t : Fin grid0.N, Pipeline.Window.flushOf grid0 true cc0_transform_18 t = true ↔ t.val % 32 = 31)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)
abbrev st0_15 (a : (pcfg0 (F := F)).Adm) (t : Fin (cfg0 a).N) := ((cfg0 a).win 15).stage ((cfg0 a).slots t 15)
abbrev st0_16 (a : (pcfg0 (F := F)).Adm) (t : Fin (cfg0 a).N) := ((cfg0 a).win 16).stage ((cfg0 a).slots t 16)
abbrev st0_17 (a : (pcfg0 (F := F)).Adm) (t : Fin (cfg0 a).N) := ((cfg0 a).win 17).stage ((cfg0 a).slots t 17)
abbrev st0_18 (a : (pcfg0 (F := F)).Adm) (t : Fin (cfg0 a).N) := ((cfg0 a).win 18).stage ((cfg0 a).slots t 18)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_quant_qkv_rope (grid0.coords t) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (spec0_18.stage ((cfg0 a).slots t 18)) (hstage0_18 (((cfg0 a).slots t 18).cast nbuf0_18)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.Proj.Hand

end
-- ==== Proof.ProjK.Runs.lean ====
module

public import proofs.«01_k».proof.Proof.Gen.Proj.Launch
public import proofs.«01_k».proof.Proof.Gen.Proj.Skeleton
public import proofs.«01_k».proof.Proof.ProjK.Points
public import Idealize.ShloMosaic.Lib.Pipeline.FrameBody
public import Idealize.ShloMosaic.Lib.Ring
public import Idealize.ShloMosaic.Lib.Tactic
public import Idealize.ShloMosaic.Lib.WordCmp

/-! The run of the projection program up to its call: what the arrays hold when the call starts, the prefetched table,
the windows' blocks, the staging and scratch buffers, and the frame claim's post from a run's. -/

@[expose] public section

-- membership in a rectangle of production extents (`View.cover_of_tiled`): the elaborator's structural look
-- recurses once per coordinate of the long axes
set_option maxRecDepth 16384

noncomputable section

namespace Cert.Proj.Hand

open Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S8 .i32 := Memref.whole main_arg4
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1140000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S64x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x512x3840 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S3840x5376 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x5376 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x5376 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x512x3840 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S8x512 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x30x128x512 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x6x512x128 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x6x128x512 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S30x8x512 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S6x8x512 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S6x8x512 .f32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x30 .f32 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x6 .f32 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S1x6 .f32 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S1x30 .f32 := spec0_16.stage ((cfgM m hO).slots t 16)
abbrev hs0_16 (hO : Ok m) (t : Fin (cfgM m hO).N) : (ms0_16 m hO t).IsWhole := hstage0_16 (((cfgM m hO).slots t 16).cast nbuf0_16)
abbrev ms0_17 (hO : Ok m) (t : Fin (cfgM m hO).N) : Memref sig .tc .vmem S1x6 .f32 := spec0_17.stage ((cfgM m hO).slots t 17)
abbrev hs0_17 (hO : Ok m) (t : Fin (cfgM m hO).N) : (ms0_17 m hO t).IsWhole := hstage0_17 (((cfgM m hO).slots t 17).cast nbuf0_17)
abbrev ms0_18 (hO : Ok m) (t : Fin (cfgM m hO).N) : Memref sig .tc .vmem S1x6 .f32 := spec0_18.stage ((cfgM m hO).slots t 18)
abbrev hs0_18 (hO : Ok m) (t : Fin (cfgM m hO).N) : (ms0_18 m hO t).IsWhole := hstage0_18 (((cfgM m hO).slots t 18).cast nbuf0_18)
/-- The scratch operands: whole scoped buffers of the kernel's own, passed beside the windows. -/
abbrev scM0_0 : Memref sig .tc .vmem S512x128 .f32 := Memref.whole cc0_scratch0
abbrev scM0_1 : Memref sig .tc .vmem S30x128 .f32 := Memref.whole cc0_scratch1
abbrev scM0_2 : Memref sig .tc .vmem S6x128 .f32 := Memref.whole cc0_scratch2
abbrev scM0_3 : Memref sig .tc .vmem S6x128 .f32 := Memref.whole cc0_scratch3

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Proj.Hand

end
-- ==== Proof.ProjK.Run.lean ====
module

public import proofs.«01_k».proof.Proof.ProjK.Runs

/-! The run of the projection kernel's body at one grid point, on any buffers: it runs to its end and hands every buffer
back. -/

@[expose] public section

set_option maxRecDepth 16384

noncomputable section

namespace Cert.Proj.Hand

open Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple: the inputs' buffers and the table come back as they were, every other buffer at some contents. -/
theorem kernelRun0 (c : Dev nD) (i : grid0.Coords) (arg3 : Memref sig .tc .vmem S64x128 .f32) (harg3 : arg3.IsWhole) (arg4 : Memref sig .tc .vmem S1x512x3840 .bf16) (harg4 : arg4.IsWhole) (arg5 : Memref sig .tc .vmem S3840x5376 .fp8e4m3) (harg5 : arg5.IsWhole) (arg6 : Memref sig .tc .vmem S1x5376 .f32) (harg6 : arg6.IsWhole) (arg7 : Memref sig .tc .vmem S1x5376 .f32) (harg7 : arg7.IsWhole) (arg8 : Memref sig .tc .vmem S1x512x3840 .fp8e4m3) (harg8 : arg8.IsWhole) (arg9 : Memref sig .tc .vmem S8x512 .f32) (harg9 : arg9.IsWhole) (arg10 : Memref sig .tc .vmem S1x30x128x512 .bf16) (harg10 : arg10.IsWhole) (arg11 : Memref sig .tc .vmem S1x6x512x128 .bf16) (harg11 : arg11.IsWhole) (arg12 : Memref sig .tc .vmem S1x6x128x512 .bf16) (harg12 : arg12.IsWhole) (arg13 : Memref sig .tc .vmem S30x8x512 .f32) (harg13 : arg13.IsWhole) (arg14 : Memref sig .tc .vmem S6x8x512 .f32) (harg14 : arg14.IsWhole) (arg15 : Memref sig .tc .vmem S6x8x512 .f32) (harg15 : arg15.IsWhole) (arg16 : Memref sig .tc .vmem S1x30 .f32) (harg16 : arg16.IsWhole) (arg17 : Memref sig .tc .vmem S1x6 .f32) (harg17 : arg17.IsWhole) (arg18 : Memref sig .tc .vmem S1x6 .f32) (harg18 : arg18.IsWhole) (arg19 : Memref sig .tc .vmem S1x30 .f32) (harg19 : arg19.IsWhole) (arg20 : Memref sig .tc .vmem S1x6 .f32) (harg20 : arg20.IsWhole) (arg21 : Memref sig .tc .vmem S1x6 .f32) (harg21 : arg21.IsWhole) (arg22 : Memref sig .tc .vmem S512x128 .f32) (harg22 : arg22.IsWhole) (arg23 : Memref sig .tc .vmem S30x128 .f32) (harg23 : arg23.IsWhole) (arg24 : Memref sig .tc .vmem S6x128 .f32) (harg24 : arg24.IsWhole) (arg25 : Memref sig .tc .vmem S6x128 .f32) (harg25 : arg25.IsWhole)
    (x0 : Vec F S64x128 .f32) (x1 : Vec F S1x512x3840 .bf16) (x2 : Vec F S3840x5376 .fp8e4m3) (x3 : Vec F S1x5376 .f32) (x4 : Vec F S1x5376 .f32) (xt0 : TbBuf0 (F := F) c tbM0_0) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ tbPt0 c tbM0_0 xt0) -∗ K ⟨⟩))
          ⊢ wp frame (wpE (defs₀ (F := F)) Variants.none c none) E (cc0_quant_qkv_rope i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    intro E K
    simp only [cc0_quant_qkv_rope_eq_skeleton]; unfold cc0_quant_qkv_rope_skel
    simp only [k0_part60_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%ds0, %fs0, -, HS0⟩, ⟨%ds1, %fs1, -, HS1⟩, ⟨%ds2, %fs2, -, HS2⟩, ⟨%ds3, %fs3, -, HS3⟩, HT0, Hk⟩
    obtain rfl := harg3.eq_unread hf0; obtain rfl := harg4.eq_unread hf1; obtain rfl := harg5.eq_unread hf2; obtain rfl := harg6.eq_unread hf3; obtain rfl := harg7.eq_unread hf4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.Proj.Hand

end
-- ==== Proof.ProjK.Frame.lean ====
module

public import proofs.«01_k».proof.Proof.ProjK.Run
public import Idealize.ShloMosaic.Lib.Claim

/-! The frame of the projection program: from any memory it terminates, its arguments end unchanged, and every
semaphore counter ends at zero. Nothing is said here of what it computes. -/

@[expose] public section

-- membership in a rectangle of production extents (`View.cover_of_tiled`): the elaborator's structural look
-- recurses once per coordinate of the long axes
set_option maxRecDepth 16384

noncomputable section

namespace Cert.Proj.Hand

open Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (5, 6, 7, 8, 9, 10, 11, 12, 13, 14, 15, 16, 17, 18): nothing reads what the kernel leaves in them, so nothing
    of it is named (Lib/Pipeline/Dat.lean `Dat.toRForget`). -/
def forgets0 : Fin 19 → Bool := fun w => w.val == 5 || w.val == 6 || w.val == 7 || w.val == 8 || w.val == 9 || w.val == 10 || w.val == 11 || w.val == 12 || w.val == 13 || w.val == 14 || w.val == 15 || w.val == 16 || w.val == 17 || w.val == 18

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => Pipeline.Dat.unnamed (cfg := (cfgM m hO)) ⟨5, h⟩ t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
    | ⟨12, h⟩ => Pipeline.Dat.unnamed (cfg := (cfgM m hO)) ⟨12, h⟩ t
    | ⟨13, h⟩ => Pipeline.Dat.unnamed (cfg := (cfgM m hO)) ⟨13, h⟩ t
    | ⟨14, h⟩ => Pipeline.Dat.unnamed (cfg := (cfgM m hO)) ⟨14, h⟩ t
    | ⟨15, h⟩ => Pipeline.Dat.unnamed (cfg := (cfgM m hO)) ⟨15, h⟩ t
    | ⟨16, h⟩ => Pipeline.Dat.unnamed (cfg := (cfgM m hO)) ⟨16, h⟩ t
    | ⟨17, h⟩ => Pipeline.Dat.unnamed (cfg := (cfgM m hO)) ⟨17, h⟩ t
    | ⟨18, h⟩ => Pipeline.Dat.unnamed (cfg := (cfgM m hO)) ⟨18, h⟩ t
    | ⟨_ + 19, h⟩ => absurd h (Nat.not_lt.2 (Nat.le_add_left _ _))
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d)
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d)
    ∗ (∃ d, owns (c : Thread nD τ) (ms0_16 m hO t) fullShare d)
    ∗ (∃ d, owns (c : Thread nD τ) (ms0_17 m hO t) fullShare d)
    ∗ (∃ d, owns (c : Thread nD τ) (ms0_18 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d)
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d)
    ∗ (∃ d, owns (c : Thread nD τ) (ms0_16 m hO t) fullShare d)
    ∗ (∃ d, owns (c : Thread nD τ) (ms0_17 m hO t) fullShare d)
    ∗ (∃ d, owns (c : Thread nD τ) (ms0_18 m hO t) fullShare d))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq, PhiA0_eq]
  iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((kernelRun0 c (grid0.coords t) _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (tbl m 0)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [HS0]; · iexact HS0
  isplitl [HS1]; · iexact HS1
  isplitl [HS2]; · iexact HS2
  isplitl [HS3]; · iexact HS3
  isplitl [HT0]; · iexact HT0
  iintro ⟨H0, H1, H2, H3, H4, H5, H6, H7, H8, H9, H10, H11, H12, H13, H14, H15, H16, H17, H18, HS0, HS1, HS2, HS3, HT0⟩
  isplitl [HS0 HS1 HS2 HS3 Hg HT0]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 5, 6, 7, 8, 9, 10, 11, 12, 13, 14, 15, 16, 17, 18) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (fun c => (dats m hO 0 c).toRForget forgets0) (A_eq m hO) (run_main m ρ hO)

/-- The frame: the argument arrays end unchanged and every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Proj.Hand

end
-- ==== Proof.AttnK.Runs.lean ====
module

public import proofs.«01_k».proof.Proof.Gen.Attn.Launch
public import proofs.«01_k».proof.Proof.Gen.Attn.Skeleton
public import proofs.«01_k».proof.Proof.Gen.Attn.Points
public import Idealize.ShloMosaic.Lib.Pipeline.FrameBody
public import Idealize.ShloMosaic.Lib.Ring
public import Idealize.ShloMosaic.Lib.Tactic
public import Idealize.ShloMosaic.Lib.WordCmp

/-! The arrays and blocks that the grid points of the attention program meet. -/

@[expose] public section

-- membership in a rectangle of production extents (`View.cover_of_tiled`): the elaborator's structural look
-- recurses once per coordinate of the long axes
set_option maxRecDepth 16384

noncomputable section

namespace Cert.Attn.Hand

open Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 7 (mod 8) — by arithmetic of the point. -/
theorem hcond0_0 : ∀ t : Fin cfg0.N, cond0_0 (grid0.coords t) ↔ t.val % 8 = 7 :=
  (fun t => by
    have ht : t.val < 240 := Nat.lt_of_lt_of_eq t.isLt N_0
    have e0 : (grid0.coords t 0).val = t.val / 8 % 30 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x1x128x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1x2048x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x30 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x30 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x30 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x30 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S8x2048x128 .f32 := Memref.whole cc0_scratch0

/-- The invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Attn.Hand

end
-- ==== Proof.AttnK.RunA.lean ====
module

public import proofs.«01_k».proof.Proof.AttnK.Runs

/-! The body of the attention program at a point that is not the last of a head: it runs, whatever its buffers hold. -/

@[expose] public section

-- membership in a rectangle of production extents (`View.cover_of_tiled`): the elaborator's structural look
-- recurses once per coordinate of the long axes
set_option maxRecDepth 16384

noncomputable section

namespace Cert.Attn.Hand

open Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 not taken: points 0, 1, … 238: 210 of 240): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs — each `scf.if` decided by the case's hypotheses `hc·`. -/
theorem kernelRun0_A (c : Dev nD) (i : grid0.Coords) (arg2 : Memref sig .tc .vmem S1x1x128x2048 .bf16) (harg2 : arg2.IsWhole) (arg3 : Memref sig .tc .vmem S1x1x2048x128 .bf16) (harg3 : arg3.IsWhole) (arg4 : Memref sig .tc .vmem S1x1x128x2048 .bf16) (harg4 : arg4.IsWhole) (arg5 : Memref sig .tc .vmem S8x1x2048x128 .fp8e4m3) (harg5 : arg5.IsWhole) (arg6 : Memref sig .tc .vmem S1x8x2048 .f32) (harg6 : arg6.IsWhole) (arg7 : Memref sig .tc .vmem S1x8x2048 .f32) (harg7 : arg7.IsWhole) (arg8 : Memref sig .tc .vmem S1x30 .f32) (harg8 : arg8.IsWhole) (arg9 : Memref sig .tc .vmem S1x30 .f32) (harg9 : arg9.IsWhole) (arg10 : Memref sig .tc .vmem S1x30 .f32) (harg10 : arg10.IsWhole) (arg11 : Memref sig .tc .vmem S1x30 .f32) (harg11 : arg11.IsWhole) (arg12 : Memref sig .tc .vmem S8x2048x128 .f32) (harg12 : arg12.IsWhole) (hc0 : ¬cond0_0 i)
    (x0 : Vec F S1x1x128x2048 .bf16) (x1 : Vec F S1x1x2048x128 .bf16) (x2 : Vec F S1x1x128x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa_attention i arg2 harg2 arg3 harg3 arg4 harg4 arg5 harg5 arg6 harg6 arg7 harg7 arg8 harg8 arg9 harg9 arg10 harg10 arg11 harg11 arg12 harg12) K := by
    intro E K
    simp only [cc0_causal_gqa_attention_eq_skeleton]; unfold cc0_causal_gqa_attention_skel
    simp only [k0_part39_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact HS0
    ipureintro; rfl

end Cert.Attn.Hand

end
-- ==== Proof.AttnK.RunB.lean ====
module

public import proofs.«01_k».proof.Proof.AttnK.RunA

/-! The body of the attention program at the last point of a head: it runs, whatever its buffers hold. -/

@[expose] public section

-- membership in a rectangle of production extents (`View.cover_of_tiled`): the elaborator's structural look
-- recurses once per coordinate of the long axes
set_option maxRecDepth 16384

noncomputable section

namespace Cert.Attn.Hand

open Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2076000 in
/-- The body's triple IN CASE B (`scf.if` 0 taken: points 7, 15, … 239: 30 of 240): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs — each `scf.if` decided by the case's hypotheses `hc·`. -/
theorem kernelRun0_B (c : Dev nD) (i : grid0.Coords) (arg2 : Memref sig .tc .vmem S1x1x128x2048 .bf16) (harg2 : arg2.IsWhole) (arg3 : Memref sig .tc .vmem S1x1x2048x128 .bf16) (harg3 : arg3.IsWhole) (arg4 : Memref sig .tc .vmem S1x1x128x2048 .bf16) (harg4 : arg4.IsWhole) (arg5 : Memref sig .tc .vmem S8x1x2048x128 .fp8e4m3) (harg5 : arg5.IsWhole) (arg6 : Memref sig .tc .vmem S1x8x2048 .f32) (harg6 : arg6.IsWhole) (arg7 : Memref sig .tc .vmem S1x8x2048 .f32) (harg7 : arg7.IsWhole) (arg8 : Memref sig .tc .vmem S1x30 .f32) (harg8 : arg8.IsWhole) (arg9 : Memref sig .tc .vmem S1x30 .f32) (harg9 : arg9.IsWhole) (arg10 : Memref sig .tc .vmem S1x30 .f32) (harg10 : arg10.IsWhole) (arg11 : Memref sig .tc .vmem S1x30 .f32) (harg11 : arg11.IsWhole) (arg12 : Memref sig .tc .vmem S8x2048x128 .f32) (harg12 : arg12.IsWhole) (hc0 : cond0_0 i)
    (x0 : Vec F S1x1x128x2048 .bf16) (x1 : Vec F S1x1x2048x128 .bf16) (x2 : Vec F S1x1x128x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa_attention i arg2 harg2 arg3 harg3 arg4 harg4 arg5 harg5 arg6 harg6 arg7 harg7 arg8 harg8 arg9 harg9 arg10 harg10 arg11 harg11 arg12 harg12) K := by
    intro E K
    simp only [cc0_causal_gqa_attention_eq_skeleton]; unfold cc0_causal_gqa_attention_skel
    simp only [k0_part39_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact HS0
    ipureintro; rfl

end Cert.Attn.Hand

end
-- ==== Proof.AttnK.Frame.lean ====
module

public import proofs.«01_k».proof.Proof.AttnK.RunB
public import Idealize.ShloMosaic.Lib.Claim

/-! The frame of the attention program: from any memory it terminates, its arguments end unchanged, and every semaphore counter
ends at zero. Nothing is said here of what it computes. -/

@[expose] public section

-- membership in a rectangle of production extents (`View.cover_of_tiled`): the elaborator's structural look
-- recurses once per coordinate of the long axes
set_option maxRecDepth 16384

noncomputable section

namespace Cert.Attn.Hand

open Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5, 6, 7, 8, 9): nothing reads what the kernel leaves in them, so nothing
    of it is named. -/
def forgets0 : Fin 10 → Bool := fun w => w.val == 3 || w.val == 4 || w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
   ; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 240 := lt_of_lt_of_eq t.isLt (show cfg0.N = 240 from N_0)
  by_cases h0 : t.val % 8 = 7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    iintro ⟨H0, H1, H2, H3, H4, H5, H6, H7, H8, H9, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    iintro ⟨H0, H1, H2, H3, H4, H5, H6, H7, H8, H9, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution terminates with every input array unchanged, nothing stated of the outputs, and every other unscoped buffer as
    it was when the region was entered. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Attn.Hand

end
-- ==== Proof.AttnI.Runs.lean ====
module

public import proofs.«01_k».proof.Proof.Gen.AttnIdeal.Launch
public import proofs.«01_k».proof.Proof.Gen.AttnIdeal.Skeleton
public import proofs.«01_k».proof.Proof.Gen.AttnIdeal.Points
public import Idealize.ShloMosaic.Lib.Pipeline.FrameBody
public import Idealize.ShloMosaic.Lib.Ring
public import Idealize.ShloMosaic.Lib.Tactic
public import Idealize.ShloMosaic.Lib.WordCmp

/-! The arrays and blocks that the grid points of the ideal reading of the attention program meet. -/

@[expose] public section

-- membership in a rectangle of production extents (`View.cover_of_tiled`): the elaborator's structural look
-- recurses once per coordinate of the long axes
set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 7 (mod 8) — by arithmetic of the point. -/
theorem hcond0_0 : ∀ t : Fin cfg0.N, cond0_0 (grid0.coords t) ↔ t.val % 8 = 7 :=
  (fun t => by
    have ht : t.val < 240 := Nat.lt_of_lt_of_eq t.isLt N_0
    have e0 : (grid0.coords t 0).val = t.val / 8 % 30 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x1x128x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1x2048x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x30 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x30 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x30 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x30 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S8x2048x128 .f32 := Memref.whole cc0_scratch0

/-- The invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.AttnIdeal.Hand

end
-- ==== Proof.AttnI.RunA.lean ====
module

public import proofs.«01_k».proof.Proof.AttnI.Runs

/-! The body of the ideal reading of the attention program at a point that is not the last of a head: it runs, whatever its buffers hold. -/

@[expose] public section

-- membership in a rectangle of production extents (`View.cover_of_tiled`): the elaborator's structural look
-- recurses once per coordinate of the long axes
set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 not taken: points 0, 1, … 238: 210 of 240): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs — each `scf.if` decided by the case's hypotheses `hc·`. -/
theorem kernelRun0_A (c : Dev nD) (i : grid0.Coords) (arg2 : Memref sig .tc .vmem S1x1x128x2048 .bf16) (harg2 : arg2.IsWhole) (arg3 : Memref sig .tc .vmem S1x1x2048x128 .bf16) (harg3 : arg3.IsWhole) (arg4 : Memref sig .tc .vmem S1x1x128x2048 .bf16) (harg4 : arg4.IsWhole) (arg5 : Memref sig .tc .vmem S8x1x2048x128 .fp8e4m3) (harg5 : arg5.IsWhole) (arg6 : Memref sig .tc .vmem S1x8x2048 .f32) (harg6 : arg6.IsWhole) (arg7 : Memref sig .tc .vmem S1x8x2048 .f32) (harg7 : arg7.IsWhole) (arg8 : Memref sig .tc .vmem S1x30 .f32) (harg8 : arg8.IsWhole) (arg9 : Memref sig .tc .vmem S1x30 .f32) (harg9 : arg9.IsWhole) (arg10 : Memref sig .tc .vmem S1x30 .f32) (harg10 : arg10.IsWhole) (arg11 : Memref sig .tc .vmem S1x30 .f32) (harg11 : arg11.IsWhole) (arg12 : Memref sig .tc .vmem S8x2048x128 .f32) (harg12 : arg12.IsWhole) (hc0 : ¬cond0_0 i)
    (x0 : Vec F S1x1x128x2048 .bf16) (x1 : Vec F S1x1x2048x128 .bf16) (x2 : Vec F S1x1x128x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa_attention i arg2 harg2 arg3 harg3 arg4 harg4 arg5 harg5 arg6 harg6 arg7 harg7 arg8 harg8 arg9 harg9 arg10 harg10 arg11 harg11 arg12 harg12) K := by
    intro E K
    simp only [cc0_causal_gqa_attention_eq_skeleton]; unfold cc0_causal_gqa_attention_skel
    simp only [k0_part39_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact HS0
    ipureintro; rfl

end Cert.AttnIdeal.Hand

end
-- ==== Proof.AttnI.RunB.lean ====
module

public import proofs.«01_k».proof.Proof.AttnI.RunA

/-! The body of the ideal reading of the attention program at the last point of a head: it runs, whatever its buffers hold. -/

@[expose] public section

-- membership in a rectangle of production extents (`View.cover_of_tiled`): the elaborator's structural look
-- recurses once per coordinate of the long axes
set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2076000 in
/-- The body's triple IN CASE B (`scf.if` 0 taken: points 7, 15, … 239: 30 of 240): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs — each `scf.if` decided by the case's hypotheses `hc·`. -/
theorem kernelRun0_B (c : Dev nD) (i : grid0.Coords) (arg2 : Memref sig .tc .vmem S1x1x128x2048 .bf16) (harg2 : arg2.IsWhole) (arg3 : Memref sig .tc .vmem S1x1x2048x128 .bf16) (harg3 : arg3.IsWhole) (arg4 : Memref sig .tc .vmem S1x1x128x2048 .bf16) (harg4 : arg4.IsWhole) (arg5 : Memref sig .tc .vmem S8x1x2048x128 .fp8e4m3) (harg5 : arg5.IsWhole) (arg6 : Memref sig .tc .vmem S1x8x2048 .f32) (harg6 : arg6.IsWhole) (arg7 : Memref sig .tc .vmem S1x8x2048 .f32) (harg7 : arg7.IsWhole) (arg8 : Memref sig .tc .vmem S1x30 .f32) (harg8 : arg8.IsWhole) (arg9 : Memref sig .tc .vmem S1x30 .f32) (harg9 : arg9.IsWhole) (arg10 : Memref sig .tc .vmem S1x30 .f32) (harg10 : arg10.IsWhole) (arg11 : Memref sig .tc .vmem S1x30 .f32) (harg11 : arg11.IsWhole) (arg12 : Memref sig .tc .vmem S8x2048x128 .f32) (harg12 : arg12.IsWhole) (hc0 : cond0_0 i)
    (x0 : Vec F S1x1x128x2048 .bf16) (x1 : Vec F S1x1x2048x128 .bf16) (x2 : Vec F S1x1x128x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_causal_gqa_attention i arg2 harg2 arg3 harg3 arg4 harg4 arg5 harg5 arg6 harg6 arg7 harg7 arg8 harg8 arg9 harg9 arg10 harg10 arg11 harg11 arg12 harg12) K := by
    intro E K
    simp only [cc0_causal_gqa_attention_eq_skeleton]; unfold cc0_causal_gqa_attention_skel
    simp only [k0_part39_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact HS0
    ipureintro; rfl

end Cert.AttnIdeal.Hand

end
-- ==== Proof.AttnI.Frame.lean ====
module

public import proofs.«01_k».proof.Proof.AttnI.RunB
public import Idealize.ShloMosaic.Lib.Claim

/-! The frame of the ideal reading of the attention program: from any memory it terminates, its arguments end unchanged, and every semaphore counter
ends at zero. Nothing is said here of what it computes. -/

@[expose] public section

-- membership in a rectangle of production extents (`View.cover_of_tiled`): the elaborator's structural look
-- recurses once per coordinate of the long axes
set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5, 6, 7, 8, 9): nothing reads what the kernel leaves in them, so nothing
    of it is named. -/
def forgets0 : Fin 10 → Bool := fun w => w.val == 3 || w.val == 4 || w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
   ; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 240 := lt_of_lt_of_eq t.isLt (show cfg0.N = 240 from N_0)
  by_cases h0 : t.val % 8 = 7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    iintro ⟨H0, H1, H2, H3, H4, H5, H6, H7, H8, H9, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    iintro ⟨H0, H1, H2, H3, H4, H5, H6, H7, H8, H9, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution terminates with every input array unchanged, nothing stated of the outputs, and every other unscoped buffer as
    it was when the region was entered. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.AttnIdeal.Hand

end
-- ==== Proof.lean ====
/- The assembly of the certificate: the frames of the printed programs and of their ideal readings, and the equation of the projection with its reference. -/
module

public import proofs.«01_k».proof.Defs
public import proofs.«01_k».proof.Proof.Equation
public import proofs.«01_k».proof.Proof.ProjK.Frame
public import proofs.«01_k».proof.Proof.AttnK.Frame
public import proofs.«01_k».proof.Proof.AttnI.Frame
public import proofs.«01_k».proof.Proof.Gen.Proj
public import proofs.«01_k».proof.Proof.Gen.Proj.Skeleton
public import proofs.«01_k».proof.Proof.Gen.Proj.Launch
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjReferenceIdeal
public import proofs.«01_k».proof.Proof.Gen.ProjReferenceIdeal.Frame
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import Idealize.ShloMosaic.Adequacy
public import Idealize.ShloMosaic.Init

@[expose] public section

noncomputable section

namespace Cert.Proof

open Idealize.ShloMosaic Idealize.SL.Sem Cert.Attn

/-- The certificate. -/
theorem claim : Cert.Claim := ⟨Cert.Proj.Gen.facts, Cert.ProjIdeal.Gen.facts, Cert.ProjReferenceIdeal.Gen.facts, Cert.Attn.Gen.facts,
  Cert.AttnIdeal.Gen.facts, Cert.Value.preFacts,
  fun m ρ _ => Cert.Proj.Hand.frame m ρ trivial, fun m ρ _ => Cert.ProjIdeal.Hand.frame m ρ trivial, fun m ρ _ => Cert.ProjIdeal.Hand.frame m ρ trivial,
  fun m ρ _ => Cert.ProjReferenceIdeal.Gen.frame m ρ, fun m ρ _ => Cert.ProjReferenceIdeal.Gen.frame m ρ,
  fun m ρ _ => Cert.Attn.Hand.frame m ρ, fun m ρ _ => Cert.AttnIdeal.Hand.frame m ρ, trivial, Cert.Value.algebraic, trivial⟩

end Cert.Proof

end
